-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_pool [hPre_finite_pool : Cert.Pre_finite_pool.Facts] (m : (ℓ : Loc Cert.KernelIdeal.nD Cert.KernelIdeal.τ Cert.KernelIdeal.sig) → Buf (Elt Ideal) ℓ) : Prop :=
  ∀ c : Dev Cert.KernelIdeal.nD,
    (Cert.Pre_finite_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_pool [hPre_finite_pool : Cert.Pre_finite_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_pool [hKernelIdeal : Cert.KernelIdeal.Facts] [hPre_finite_pool : Cert.Pre_finite_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_pool m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_pool [hReferenceIdeal : Cert.ReferenceIdeal.Facts] [hPre_finite_pool : Cert.Pre_finite_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_pool [hKernelIdeal : Cert.KernelIdeal.Facts] [hReferenceIdeal : Cert.ReferenceIdeal.Facts] [hPre_finite_pool : Cert.Pre_finite_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_pool m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_pool : Cert.Pre_finite_pool.Facts),
    quiescent_Kernel (hKernel := hKernel)
    ∧ quiescent_KernelIdeal (hKernelIdeal := hKernelIdeal)
    ∧ quiescent_KernelIdeal_pre_finite_pool (hKernelIdeal := hKernelIdeal) (hPre_finite_pool := hPre_finite_pool)
    ∧ quiescent_ReferenceIdeal (hReferenceIdeal := hReferenceIdeal)
    ∧ quiescent_ReferenceIdeal_pre_finite_pool (hReferenceIdeal := hReferenceIdeal) (hPre_finite_pool := hPre_finite_pool)
    ∧ preserves_Kernel_KernelIdeal
    ∧ algebraic_KernelIdeal_ReferenceIdeal_pre_finite_pool (hKernelIdeal := hKernelIdeal) (hReferenceIdeal := hReferenceIdeal) (hPre_finite_pool := hPre_finite_pool)
-- ==== Pre_finite_pool.lean ====
abbrev S8x512x2 : Shape := ⟨3, ![8, 512, 2]⟩
abbrev S8x2 : Shape := ⟨2, ![8, 2]⟩
abbrev S2x64 : Shape := ⟨2, ![2, 64]⟩
abbrev S64 : Shape := ⟨1, ![64]⟩
abbrev S8192x64 : Shape := ⟨2, ![8192, 64]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8x512x2 .f32) (main_arg1 : IVec S8x2 32) (main_arg2 : FVec F S8x512x2 .f32) (main_arg3 : FVec F S2x64 .f32) (main_arg4 : FVec F S64 .f32) (main_arg5 : FVec F S8192x64 .f32) (main_arg6 : FVec F S64 .f32) (main_arg7 : FVec F S256x128 .f32) (main_arg8 : FVec F S128 .f32) (main_arg9 : FVec F S256x128 .f32) (main_arg10 : FVec F S128 .f32) (main_arg11 : FVec F S256x128 .f32) (main_arg12 : FVec F S128 .f32) (main_arg13 : FVec F S256x128 .f32) (main_arg14 : FVec F S128 .f32) (main_arg15 : FVec F S128x2 .f32) (main_arg16 : FVec F S2 .f32) : IVec S_ 1 :=
  let main_v0 : FVec F S8192x64 .f32 := Host.absf main_arg5
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8x512x2 : Shape := ⟨3, ![8, 512, 2]⟩
abbrev S8x2 : Shape := ⟨2, ![8, 2]⟩
abbrev S2x64 : Shape := ⟨2, ![2, 64]⟩
abbrev S64 : Shape := ⟨1, ![64]⟩
abbrev S8192x64 : Shape := ⟨2, ![8192, 64]⟩
abbrev S256x128 : Shape := ⟨2, ![256, 128]⟩
abbrev S128 : Shape := ⟨1, ![128]⟩
abbrev S128x2 : Shape := ⟨2, ![128, 2]⟩
abbrev S2 : Shape := ⟨1, ![2]⟩
abbrev S64x128x64 : Shape := ⟨3, ![64, 128, 64]⟩
abbrev S128x64x64 : Shape := ⟨3, ![128, 64, 64]⟩
abbrev S128x4096 : Shape := ⟨2, ![128, 4096]⟩
abbrev S256x512 : Shape := ⟨2, ![256, 512]⟩
abbrev S64x512 : Shape := ⟨2, ![64, 512]⟩
abbrev S128x512 : Shape := ⟨2, ![128, 512]⟩
abbrev S512 : Shape := ⟨1, ![512]⟩
abbrev S1x512 : Shape := ⟨2, ![1, 512]⟩
abbrev S1x64 : Shape := ⟨2, ![1, 64]⟩
abbrev S1x2 : Shape := ⟨2, ![1, 2]⟩
abbrev S12x512x2 : Shape := ⟨3, ![12, 512, 2]⟩
abbrev S64x64 : Shape := ⟨2, ![64, 64]⟩
abbrev S1x64x1 : Shape := ⟨3, ![1, 64, 1]⟩
abbrev S512x128 : Shape := ⟨2, ![512, 128]⟩
abbrev S1x512x2 : Shape := ⟨3, ![1, 512, 2]⟩
abbrev S512x2 : Shape := ⟨2, ![512, 2]⟩
abbrev S512x1 : Shape := ⟨2, ![512, 1]⟩
abbrev S512x64 : Shape := ⟨2, ![512, 64]⟩
abbrev S8x64x2 : Shape := ⟨3, ![8, 64, 2]⟩
abbrev S8x64x1 : Shape := ⟨3, ![8, 64, 1]⟩
abbrev S8x64 : Shape := ⟨2, ![8, 64]⟩
abbrev S8x1x64 : Shape := ⟨3, ![8, 1, 64]⟩
abbrev S8x64x64 : Shape := ⟨3, ![8, 64, 64]⟩
abbrev S1x64x64 : Shape := ⟨3, ![1, 64, 64]⟩
abbrev S64x1x64 : Shape := ⟨3, ![64, 1, 64]⟩
abbrev S64x64x64 : Shape := ⟨3, ![64, 64, 64]⟩
abbrev S4096x64 : Shape := ⟨2, ![4096, 64]⟩
abbrev S64x128 : Shape := ⟨2, ![64, 128]⟩
abbrev S64x4096 : Shape := ⟨2, ![64, 4096]⟩
abbrev S512x512 : Shape := ⟨2, ![512, 512]⟩

abbrev nBuf : Space → Nat
  | .hbm => 30
  | .vmem => 13
  | .smem => 0
  | _ => 0

abbrev bufTy : (tb : Table) → Fin (tcTables nBuf tb) → BufTy
  | .hbm, ⟨0, _⟩ => ⟨S8x512x2, .f32⟩
  | .hbm, ⟨1, _⟩ => ⟨S8x2, .i32⟩
  | .hbm, ⟨2, _⟩ => ⟨S8x512x2, .f32⟩
  | .hbm, ⟨3, _⟩ => ⟨S2x64, .f32⟩
  | .hbm, ⟨4, _⟩ => ⟨S64, .f32⟩
  | .hbm, ⟨5, _⟩ => ⟨S8192x64, .f32⟩
  | .hbm, ⟨6, _⟩ => ⟨S64, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S128x2, .f32⟩
  | .hbm, ⟨16, _⟩ => ⟨S2, .f32⟩
  | .hbm, ⟨17, _⟩ => ⟨S64x128x64, .f32⟩
  | .hbm, ⟨18, _⟩ => ⟨S128x64x64, .f32⟩
  | .hbm, ⟨19, _⟩ => ⟨S128x4096, .f32⟩
  | .hbm, ⟨20, _⟩ => ⟨S256x512, .f32⟩
  | .hbm, ⟨21, _⟩ => ⟨S64x512, .f32⟩
  | .hbm, ⟨22, _⟩ => ⟨S128x512, .f32⟩
  | .hbm, ⟨23, _⟩ => ⟨S64x512, .f32⟩
  | .hbm, ⟨24, _⟩ => ⟨S512, .f32⟩
  | .hbm, ⟨25, _⟩ => ⟨S1x512, .f32⟩
  | .hbm, ⟨26, _⟩ => ⟨S1x64, .f32⟩
  | .hbm, ⟨27, _⟩ => ⟨S1x64, .f32⟩
  | .hbm, ⟨28, _⟩ => ⟨S1x2, .f32⟩
  | .hbm, ⟨29, _⟩ => ⟨S12x512x2, .f32⟩
  | .local _ .vmem, ⟨0, _⟩ => ⟨S8x512x2, .f32⟩
  | .local _ .vmem, ⟨1, _⟩ => ⟨S8x512x2, .f32⟩
  | .local _ .vmem, ⟨2, _⟩ => ⟨S2x64, .f32⟩
  | .local _ .vmem, ⟨3, _⟩ => ⟨S1x64, .f32⟩
  | .local _ .vmem, ⟨4, _⟩ => ⟨S128x4096, .f32⟩
  | .local _ .vmem, ⟨5, _⟩ => ⟨S1x64, .f32⟩
  | .local _ .vmem, ⟨6, _⟩ => ⟨S64x512, .f32⟩
  | .local _ .vmem, ⟨7, _⟩ => ⟨S128x512, .f32⟩
  | .local _ .vmem, ⟨8, _⟩ => ⟨S64x512, .f32⟩
  | .local _ .vmem, ⟨9, _⟩ => ⟨S1x512, .f32⟩
  | .local _ .vmem, ⟨10, _⟩ => ⟨S128x2, .f32⟩
  | .local _ .vmem, ⟨11, _⟩ => ⟨S1x2, .f32⟩
  | .local _ .vmem, ⟨12, _⟩ => ⟨S12x512x2, .f32⟩
  | _, _ => ⟨S8x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v0 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v25 : BitVec 32 := Scalar.addi c0_i32 c8_i32
  let c1_i32 : BitVec 32 := 1#32
  ⟨c0_i32, v25, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v31 : Index := Scalar.indexCast arg13
  let c0_27 : Index := 0#32
  let c0_28 : Index := 0#32
  ![v31.toNat, 0, 0]
@[reducible] def k0_t2_loop : Scf.Loop 32 :=
  let c0_i32_24 : BitVec 32 := 0#32
  let c12_i32 : BitVec 32 := 12#32
  let v29 : BitVec 32 := Scalar.addi c0_i32_24 c12_i32
  let c1_i32_25 : BitVec 32 := 1#32
  ⟨c0_i32_24, v29, c1_i32_25⟩
def k0_off2 (k0_t2 : Fin k0_t2_loop.trips) : Fin 3 → Nat :=
  let c0_i32_24 : BitVec 32 := 0#32
  let c1_i32_25 : BitVec 32 := 1#32
  let arg13 : BitVec 32 := Scf.iv c0_i32_24 c1_i32_25 k0_t2
  let v35 : Index := Scalar.indexCast arg13
  let c0_28 : Index := 0#32
  let c0_29 : Index := 0#32
  ![v35.toNat, 0, 0]
abbrev stage0_0 : Fin 1 → Memref sig .tc .vmem S8x512x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x512x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S8x512x2 : Shape := ⟨3, ![8, 512, 2]⟩
abbrev S8x2 : Shape := ⟨2, ![8, 2]⟩
abbrev S2x64 : Shape := ⟨2, ![2, 64]⟩
abbrev S64 : Shape := ⟨1, ![64]⟩
abbrev S8192x64 : Shape := ⟨2, ![8192, 64]⟩
abbrev S256x128 : Shape := ⟨2, ![256, 128]⟩
abbrev S128 : Shape := ⟨1, ![128]⟩
abbrev S128x2 : Shape := ⟨2, ![128, 2]⟩
abbrev S2 : Shape := ⟨1, ![2]⟩
abbrev S20 : Shape := ⟨1, ![20]⟩
abbrev S_ : Shape := ⟨0, ![]⟩
abbrev S12x512x2 : Shape := ⟨3, ![12, 512, 2]⟩
abbrev S20x512x2 : Shape := ⟨3, ![20, 512, 2]⟩
abbrev S512x128 : Shape := ⟨2, ![512, 128]⟩
abbrev S1x512x2 : Shape := ⟨3, ![1, 512, 2]⟩
abbrev S512x2 : Shape := ⟨2, ![512, 2]⟩
abbrev S1 : Shape := ⟨1, ![1]⟩
abbrev S1x2 : Shape := ⟨2, ![1, 2]⟩
abbrev S512x64 : Shape := ⟨2, ![512, 64]⟩
abbrev S1x64 : Shape := ⟨2, ![1, 64]⟩
abbrev S8x64x128 : Shape := ⟨3, ![8, 64, 128]⟩
abbrev S8x64x2 : Shape := ⟨3, ![8, 64, 2]⟩
abbrev S8x1x64x2 : Shape := ⟨4, ![8, 1, 64, 2]⟩
abbrev S8x64x1x2 : Shape := ⟨4, ![8, 64, 1, 2]⟩
abbrev S8x64x64x2 : Shape := ⟨4, ![8, 64, 64, 2]⟩
abbrev S8x64x64x1 : Shape := ⟨4, ![8, 64, 64, 1]⟩
abbrev S8x64x64 : Shape := ⟨3, ![8, 64, 64]⟩
abbrev S64x64 : Shape := ⟨2, ![64, 64]⟩
abbrev S1x64x64 : Shape := ⟨3, ![1, 64, 64]⟩
abbrev S1x1x1x64 : Shape := ⟨4, ![1, 1, 1, 64]⟩
abbrev S8x64x64x64 : Shape := ⟨4, ![8, 64, 64, 64]⟩
abbrev S8x64x64x128 : Shape := ⟨4, ![8, 64, 64, 128]⟩
abbrev S512x8192 : Shape := ⟨2, ![512, 8192]⟩
abbrev S512x256 : Shape := ⟨2, ![512, 256]⟩
abbrev S1x128 : Shape := ⟨2, ![1, 128]⟩

abbrev nBuf : Space → Nat
  | .hbm => 206
  | .vmem => 0
  | .smem => 0
  | _ => 0

abbrev hbmTy0_0 (i : Nat) : BufTy := match i % 128 with
  | 0 => ⟨S8x512x2, .f32⟩
  | 1 => ⟨S8x2, .i32⟩
  | 2 => ⟨S8x512x2, .f32⟩
  | 3 => ⟨S2x64, .f32⟩
  | 4 => ⟨S64, .f32⟩
  | 5 => ⟨S8192x64, .f32⟩
  | 6 => ⟨S64, .f32⟩
  | 7 => ⟨S256x128, .f32⟩
  | 8 => ⟨S128, .f32⟩
  | 9 => ⟨S256x128, .f32⟩
  | 10 => ⟨S128, .f32⟩
  | 11 => ⟨S256x128, .f32⟩
  | 12 => ⟨S128, .f32⟩
  | 13 => ⟨S256x128, .f32⟩
  | 14 => ⟨S128, .f32⟩
  | 15 => ⟨S128x2, .f32⟩
  | 16 => ⟨S2, .f32⟩
  | 17 => ⟨S20, .i32⟩
  | 18 => ⟨S_, .f32⟩
  | 19 => ⟨S12x512x2, .f32⟩
  | 20 => ⟨S20x512x2, .f32⟩
  | 21 => ⟨S20x512x2, .f32⟩
  | 22 => ⟨S_, .f32⟩
  | 23 => ⟨S512x128, .f32⟩
  | 24 => ⟨S1x512x2, .f32⟩
  | 25 => ⟨S512x2, .f32⟩
  | 26 => ⟨S_, .f32⟩
  | 27 => ⟨S20x512x2, .f32⟩
  | 28 => ⟨S_, .i32⟩
  | 29 => ⟨S20, .i32⟩
  | 30 => ⟨S20x512x2, .f32⟩
  | 31 => ⟨S20x512x2, .f32⟩
  | 32 => ⟨S128x2, .f32⟩
  | 33 => ⟨S2, .f32⟩
  | 34 => ⟨S2x64, .f32⟩
  | 35 => ⟨S64, .f32⟩
  | 36 => ⟨S8192x64, .f32⟩
  | 37 => ⟨S64, .f32⟩
  | 38 => ⟨S256x128, .f32⟩
  | 39 => ⟨S128, .f32⟩
  | 40 => ⟨S256x128, .f32⟩
  | 41 => ⟨S128, .f32⟩
  | 42 => ⟨S256x128, .f32⟩
  | 43 => ⟨S128, .f32⟩
  | 44 => ⟨S256x128, .f32⟩
  | 45 => ⟨S128, .f32⟩
  | 46 => ⟨S_, .i32⟩
  | 47 => ⟨S512x128, .f32⟩
  | 48 => ⟨S512x128, .f32⟩
  | 49 => ⟨S512x2, .f32⟩
  | 50 => ⟨S20x512x2, .f32⟩
  | 51 => ⟨S_, .i32⟩
  | 52 => ⟨S_, .i1⟩
  | 53 => ⟨S1, .i32⟩
  | 54 => ⟨S_, .i32⟩
  | 55 => ⟨S_, .i32⟩
  | 56 => ⟨S_, .i32⟩
  | 57 => ⟨S1x512x2, .f32⟩
  | 58 => ⟨S512x2, .f32⟩
  | 59 => ⟨S_, .i32⟩
  | 60 => ⟨S_, .i32⟩
  | 61 => ⟨S1x512x2, .f32⟩
  | 62 => ⟨S512x2, .f32⟩
  | 63 => ⟨S512x2, .f32⟩
  | 64 => ⟨S1x2, .f32⟩
  | 65 => ⟨S512x2, .f32⟩
  | 66 => ⟨S512x2, .f32⟩
  | 67 => ⟨S_, .i32⟩
  | 68 => ⟨S_, .i1⟩
  | 69 => ⟨S512x2, .f32⟩
  | 70 => ⟨S_, .i32⟩
  | 71 => ⟨S_, .i1⟩
  | 72 => ⟨S512x2, .f32⟩
  | 73 => ⟨S512x2, .f32⟩
  | 74 => ⟨S512x64, .f32⟩
  | 75 => ⟨S1x64, .f32⟩
  | 76 => ⟨S512x64, .f32⟩
  | 77 => ⟨S512x64, .f32⟩
  | 78 => ⟨S8x64x128, .f32⟩
  | 79 => ⟨S8x64x2, .f32⟩
  | 80 => ⟨S8x1x64x2, .f32⟩
  | 81 => ⟨S8x64x1x2, .f32⟩
  | 82 => ⟨S8x64x64x2, .f32⟩
  | 83 => ⟨S8x64x64x2, .f32⟩
  | 84 => ⟨S8x64x64x2, .f32⟩
  | 85 => ⟨S_, .f32⟩
  | 86 => ⟨S8x64x64x2, .f32⟩
  | 87 => ⟨S8x64x64x2, .f32⟩
  | 88 => ⟨S_, .i32⟩
  | 89 => ⟨S_, .i32⟩
  | 90 => ⟨S_, .f32⟩
  | 91 => ⟨S8x64x64x2, .f32⟩
  | 92 => ⟨S8x64x64x2, .f32⟩
  | 93 => ⟨S_, .f32⟩
  | 94 => ⟨S8x64x64x2, .f32⟩
  | 95 => ⟨S8x64x64x2, .f32⟩
  | 96 => ⟨S_, .f32⟩
  | 97 => ⟨S8x64x64x2, .f32⟩
  | 98 => ⟨S8x64x64x2, .f32⟩
  | 99 => ⟨S8x64x64x2, .i32⟩
  | 100 => ⟨S8x64x64x1, .i32⟩
  | 101 => ⟨S8x64x64, .i32⟩
  | 102 => ⟨S8x64x64x1, .i32⟩
  | 103 => ⟨S8x64x64, .i32⟩
  | 104 => ⟨S_, .i32⟩
  | 105 => ⟨S8x64x64, .i32⟩
  | 106 => ⟨S8x64x64, .i1⟩
  | 107 => ⟨S_, .i32⟩
  | 108 => ⟨S8x64x64, .i32⟩
  | 109 => ⟨S8x64x64, .i1⟩
  | 110 => ⟨S8x64x64, .i1⟩
  | 111 => ⟨S_, .i32⟩
  | 112 => ⟨S8x64x64, .i32⟩
  | 113 => ⟨S8x64x64, .i1⟩
  | 114 => ⟨S8x64x64, .i1⟩
  | 115 => ⟨S_, .i32⟩
  | 116 => ⟨S8x64x64, .i32⟩
  | 117 => ⟨S8x64x64, .i1⟩
  | 118 => ⟨S8x64x64, .i1⟩
  | 119 => ⟨S64x64, .i32⟩
  | 120 => ⟨S64x64, .i32⟩
  | 121 => ⟨S_, .i32⟩
  | 122 => ⟨S64x64, .i32⟩
  | 123 => ⟨S64x64, .i32⟩
  | 124 => ⟨S64x64, .i1⟩
  | 125 => ⟨S64x64, .i1⟩
  | 126 => ⟨S1x64x64, .i1⟩
  | 127 => ⟨S8x64x64, .i1⟩
  | _ => ⟨S8x512x2, .f32⟩

abbrev hbmTy0_1 (i : Nat) : BufTy := match i % 128 with
  | 0 => ⟨S8x64x64, .i1⟩
  | 1 => ⟨S_, .i32⟩
  | 2 => ⟨S8x64x64, .i32⟩
  | 3 => ⟨S8x64x64, .i32⟩
  | 4 => ⟨S8x64x64, .i32⟩
  | 5 => ⟨S8x64x64x1, .i32⟩
  | 6 => ⟨S1x1x1x64, .i32⟩
  | 7 => ⟨S8x64x64x64, .i32⟩
  | 8 => ⟨S8x64x64x64, .i32⟩
  | 9 => ⟨S8x64x64x64, .i1⟩
  | 10 => ⟨S8x64x64x64, .f32⟩
  | 11 => ⟨S8x64x64x1, .i1⟩
  | 12 => ⟨S8x64x64x1, .f32⟩
  | 13 => ⟨S8x64x64x64, .f32⟩
  | 14 => ⟨S8x64x64x64, .f32⟩
  | 15 => ⟨S8x64x64x128, .f32⟩
  | 16 => ⟨S512x8192, .f32⟩
  | 17 => ⟨S512x64, .f32⟩
  | 18 => ⟨S1x64, .f32⟩
  | 19 => ⟨S512x64, .f32⟩
  | 20 => ⟨S512x64, .f32⟩
  | 21 => ⟨S_, .f32⟩
  | 22 => ⟨S512x64, .f32⟩
  | 23 => ⟨S512x64, .f32⟩
  | 24 => ⟨S512x256, .f32⟩
  | 25 => ⟨S512x128, .f32⟩
  | 26 => ⟨S1x128, .f32⟩
  | 27 => ⟨S512x128, .f32⟩
  | 28 => ⟨S512x128, .f32⟩
  | 29 => ⟨S512x128, .f32⟩
  | 30 => ⟨S512x128, .f32⟩
  | 31 => ⟨S_, .f32⟩
  | 32 => ⟨S512x128, .f32⟩
  | 33 => ⟨S512x128, .f32⟩
  | 34 => ⟨S_, .f32⟩
  | 35 => ⟨S512x128, .f32⟩
  | 36 => ⟨S512x128, .f32⟩
  | 37 => ⟨S512x128, .f32⟩
  | 38 => ⟨S1x128, .f32⟩
  | 39 => ⟨S512x128, .f32⟩
  | 40 => ⟨S512x128, .f32⟩
  | 41 => ⟨S512x128, .f32⟩
  | 42 => ⟨S512x128, .f32⟩
  | 43 => ⟨S_, .f32⟩
  | 44 => ⟨S512x128, .f32⟩
  | 45 => ⟨S512x128, .f32⟩
  | 46 => ⟨S_, .f32⟩
  | 47 => ⟨S512x128, .f32⟩
  | 48 => ⟨S512x128, .f32⟩
  | 49 => ⟨S512x128, .f32⟩
  | 50 => ⟨S1x128, .f32⟩
  | 51 => ⟨S512x128, .f32⟩
  | 52 => ⟨S512x128, .f32⟩
  | 53 => ⟨S512x128, .f32⟩
  | 54 => ⟨S512x128, .f32⟩
  | 55 => ⟨S_, .f32⟩
  | 56 => ⟨S512x128, .f32⟩
  | 57 => ⟨S512x128, .f32⟩
  | 58 => ⟨S_, .f32⟩
  | 59 => ⟨S512x128, .f32⟩
  | 60 => ⟨S512x128, .f32⟩
  | 61 => ⟨S512x128, .f32⟩
  | 62 => ⟨S1x128, .f32⟩
  | 63 => ⟨S512x128, .f32⟩
  | 64 => ⟨S512x128, .f32⟩
  | 65 => ⟨S512x128, .f32⟩
  | 66 => ⟨S512x128, .f32⟩
  | 67 => ⟨S512x128, .f32⟩
  | 68 => ⟨S512x128, .f32⟩
  | 69 => ⟨S512x128, .f32⟩
  | 70 => ⟨S512x128, .f32⟩
  | 71 => ⟨S1x512x2, .f32⟩
  | 72 => ⟨S_, .i32⟩
  | 73 => ⟨S_, .i32⟩
  | 74 => ⟨S20x512x2, .f32⟩
  | 75 => ⟨S_, .i32⟩
  | 76 => ⟨S_, .i32⟩
  | 77 => ⟨S12x512x2, .f32⟩
  | _ => ⟨S8x512x2, .f32⟩

abbrev hbmTy (i : Nat) : BufTy := match i / 128 with
  | 0 => hbmTy0_0 i
  | 1 => hbmTy0_1 i
  | _ => ⟨S8x512x2, .f32⟩

abbrev bufTy : (tb : Table) → Fin (tcTables nBuf tb) → BufTy
  | .hbm, ⟨i, _⟩ => hbmTy i
  | _, _ => ⟨S8x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_c : Ref sig .tc := ⟨.hbm, 28, rfl⟩
abbrev main_v8_0 : Ref sig .tc := ⟨.hbm, 29, rfl⟩
abbrev main_v8_1 : Ref sig .tc := ⟨.hbm, 30, rfl⟩
abbrev main_v8_2 : Ref sig .tc := ⟨.hbm, 31, rfl⟩
abbrev main_v8_3 : Ref sig .tc := ⟨.hbm, 32, rfl⟩
abbrev main_v8_4 : Ref sig .tc := ⟨.hbm, 33, rfl⟩
abbrev main_v8_5 : Ref sig .tc := ⟨.hbm, 34, rfl⟩
abbrev main_v8_6 : Ref sig .tc := ⟨.hbm, 35, rfl⟩
abbrev main_v8_7 : Ref sig .tc := ⟨.hbm, 36, rfl⟩
abbrev main_v8_8 : Ref sig .tc := ⟨.hbm, 37, rfl⟩
abbrev main_v8_9 : Ref sig .tc := ⟨.hbm, 38, rfl⟩
abbrev main_v8_10 : Ref sig .tc := ⟨.hbm, 39, rfl⟩
abbrev main_v8_11 : Ref sig .tc := ⟨.hbm, 40, rfl⟩
abbrev main_v8_12 : Ref sig .tc := ⟨.hbm, 41, rfl⟩
abbrev main_v8_13 : Ref sig .tc := ⟨.hbm, 42, rfl⟩
abbrev main_v8_14 : Ref sig .tc := ⟨.hbm, 43, rfl⟩
abbrev main_v8_15 : Ref sig .tc := ⟨.hbm, 44, rfl⟩
abbrev main_v8_16 : Ref sig .tc := ⟨.hbm, 45, rfl⟩
abbrev main_v8_17 : Ref sig .tc := ⟨.hbm, 46, rfl⟩
abbrev main_v8_18 : Ref sig .tc := ⟨.hbm, 47, rfl⟩
abbrev main_v8_19 : Ref sig .tc := ⟨.hbm, 48, rfl⟩
abbrev main_v8_20 : Ref sig .tc := ⟨.hbm, 49, rfl⟩
abbrev main_v8_21 : Ref sig .tc := ⟨.hbm, 50, rfl⟩
abbrev main_while0c_c_23 : Ref sig .tc := ⟨.hbm, 51, rfl⟩
abbrev main_while0c_v10 : Ref sig .tc := ⟨.hbm, 52, rfl⟩
abbrev main_while0b_call0_v0 : Ref sig .tc := ⟨.hbm, 53, rfl⟩
abbrev main_while0b_v10 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_v0 : Ref sig .tc := ⟨.hbm, 57, rfl⟩
abbrev main_while0b_v11 : Ref sig .tc := ⟨.hbm, 58, rfl⟩
abbrev main_while0b_call2_c : Ref sig .tc := ⟨.hbm, 59, rfl⟩
abbrev main_while0b_call2_c_0 : Ref sig .tc := ⟨.hbm, 60, rfl⟩
abbrev main_while0b_call2_v0 : Ref sig .tc := ⟨.hbm, 61, rfl⟩
abbrev main_while0b_v12 : Ref sig .tc := ⟨.hbm, 62, rfl⟩
abbrev main_while0b_v13 : Ref sig .tc := ⟨.hbm, 63, rfl⟩
abbrev main_while0b_v14 : Ref sig .tc := ⟨.hbm, 64, rfl⟩
abbrev main_while0b_v15 : Ref sig .tc := ⟨.hbm, 65, rfl⟩
abbrev main_while0b_v16 : Ref sig .tc := ⟨.hbm, 66, rfl⟩
abbrev main_while0b_c_23 : Ref sig .tc := ⟨.hbm, 67, rfl⟩
abbrev main_while0b_v17 : Ref sig .tc := ⟨.hbm, 68, rfl⟩
abbrev main_while0b_v18 : Ref sig .tc := ⟨.hbm, 69, rfl⟩
abbrev main_while0b_c_24 : Ref sig .tc := ⟨.hbm, 70, rfl⟩
abbrev main_while0b_v19 : Ref sig .tc := ⟨.hbm, 71, rfl⟩
abbrev main_while0b_v20 : Ref sig .tc := ⟨.hbm, 72, rfl⟩
abbrev main_while0b_v21 : Ref sig .tc := ⟨.hbm, 73, rfl⟩
abbrev main_while0b_v22 : Ref sig .tc := ⟨.hbm, 74, rfl⟩
abbrev main_while0b_v23 : Ref sig .tc := ⟨.hbm, 75, rfl⟩
abbrev main_while0b_v24 : Ref sig .tc := ⟨.hbm, 76, rfl⟩
abbrev main_while0b_v25 : Ref sig .tc := ⟨.hbm, 77, rfl⟩
abbrev main_while0b_v26 : Ref sig .tc := ⟨.hbm, 78, rfl⟩
abbrev main_while0b_v27 : Ref sig .tc := ⟨.hbm, 79, rfl⟩
abbrev main_while0b_v28 : Ref sig .tc := ⟨.hbm, 80, rfl⟩
abbrev main_while0b_v29 : Ref sig .tc := ⟨.hbm, 81, rfl⟩
abbrev main_while0b_v30 : Ref sig .tc := ⟨.hbm, 82, rfl⟩
abbrev main_while0b_v31 : Ref sig .tc := ⟨.hbm, 83, rfl⟩
abbrev main_while0b_v32 : Ref sig .tc := ⟨.hbm, 84, rfl⟩
abbrev main_while0b_cst_25 : Ref sig .tc := ⟨.hbm, 85, rfl⟩
abbrev main_while0b_v33 : Ref sig .tc := ⟨.hbm, 86, rfl⟩
abbrev main_while0b_v34 : Ref sig .tc := ⟨.hbm, 87, rfl⟩
abbrev main_while0b_c_26 : Ref sig .tc := ⟨.hbm, 88, rfl⟩
abbrev main_while0b_c_27 : Ref sig .tc := ⟨.hbm, 89, rfl⟩
abbrev main_while0b_call5_v0 : Ref sig .tc := ⟨.hbm, 90, rfl⟩
abbrev main_while0b_call5_v1 : Ref sig .tc := ⟨.hbm, 91, rfl⟩
abbrev main_while0b_call5_v2 : Ref sig .tc := ⟨.hbm, 92, rfl⟩
abbrev main_while0b_call5_v3 : Ref sig .tc := ⟨.hbm, 93, rfl⟩
abbrev main_while0b_call5_v4 : Ref sig .tc := ⟨.hbm, 94, rfl⟩
abbrev main_while0b_v35 : Ref sig .tc := ⟨.hbm, 95, rfl⟩
abbrev main_while0b_cst_28 : Ref sig .tc := ⟨.hbm, 96, rfl⟩
abbrev main_while0b_v36 : Ref sig .tc := ⟨.hbm, 97, rfl⟩
abbrev main_while0b_v37 : Ref sig .tc := ⟨.hbm, 98, rfl⟩
abbrev main_while0b_v38 : Ref sig .tc := ⟨.hbm, 99, rfl⟩
abbrev main_while0b_v39 : Ref sig .tc := ⟨.hbm, 100, rfl⟩
abbrev main_while0b_v40 : Ref sig .tc := ⟨.hbm, 101, rfl⟩
abbrev main_while0b_v41 : Ref sig .tc := ⟨.hbm, 102, rfl⟩
abbrev main_while0b_v42 : Ref sig .tc := ⟨.hbm, 103, rfl⟩
abbrev main_while0b_c_29 : Ref sig .tc := ⟨.hbm, 104, rfl⟩
abbrev main_while0b_v43 : Ref sig .tc := ⟨.hbm, 105, rfl⟩
abbrev main_while0b_v44 : Ref sig .tc := ⟨.hbm, 106, rfl⟩
abbrev main_while0b_c_30 : Ref sig .tc := ⟨.hbm, 107, rfl⟩
abbrev main_while0b_v45 : Ref sig .tc := ⟨.hbm, 108, rfl⟩
abbrev main_while0b_v46 : Ref sig .tc := ⟨.hbm, 109, rfl⟩
abbrev main_while0b_v47 : Ref sig .tc := ⟨.hbm, 110, rfl⟩
abbrev main_while0b_c_31 : Ref sig .tc := ⟨.hbm, 111, rfl⟩
abbrev main_while0b_v48 : Ref sig .tc := ⟨.hbm, 112, rfl⟩
abbrev main_while0b_v49 : Ref sig .tc := ⟨.hbm, 113, rfl⟩
abbrev main_while0b_v50 : Ref sig .tc := ⟨.hbm, 114, rfl⟩
abbrev main_while0b_c_32 : Ref sig .tc := ⟨.hbm, 115, rfl⟩
abbrev main_while0b_v51 : Ref sig .tc := ⟨.hbm, 116, rfl⟩
abbrev main_while0b_v52 : Ref sig .tc := ⟨.hbm, 117, rfl⟩
abbrev main_while0b_v53 : Ref sig .tc := ⟨.hbm, 118, rfl⟩
abbrev main_while0b_v54 : Ref sig .tc := ⟨.hbm, 119, rfl⟩
abbrev main_while0b_v55 : Ref sig .tc := ⟨.hbm, 120, rfl⟩
abbrev main_while0b_c_33 : Ref sig .tc := ⟨.hbm, 121, rfl⟩
abbrev main_while0b_v56 : Ref sig .tc := ⟨.hbm, 122, rfl⟩
abbrev main_while0b_v57 : Ref sig .tc := ⟨.hbm, 123, rfl⟩
abbrev main_while0b_v58 : Ref sig .tc := ⟨.hbm, 124, rfl⟩
abbrev main_while0b_v59 : Ref sig .tc := ⟨.hbm, 125, rfl⟩
abbrev main_while0b_v60 : Ref sig .tc := ⟨.hbm, 126, rfl⟩
abbrev main_while0b_v61 : Ref sig .tc := ⟨.hbm, 127, rfl⟩
abbrev main_while0b_v62 : Ref sig .tc := ⟨.hbm, 128, rfl⟩
abbrev main_while0b_c_34 : Ref sig .tc := ⟨.hbm, 129, rfl⟩
abbrev main_while0b_v63 : Ref sig .tc := ⟨.hbm, 130, rfl⟩
abbrev main_while0b_v64 : Ref sig .tc := ⟨.hbm, 131, rfl⟩
abbrev main_while0b_v65 : Ref sig .tc := ⟨.hbm, 132, rfl⟩
abbrev main_while0b_call6_v0 : Ref sig .tc := ⟨.hbm, 133, rfl⟩
abbrev main_while0b_call6_v1 : Ref sig .tc := ⟨.hbm, 134, rfl⟩
abbrev main_while0b_call6_v2 : Ref sig .tc := ⟨.hbm, 135, rfl⟩
abbrev main_while0b_call6_v3 : Ref sig .tc := ⟨.hbm, 136, rfl⟩
abbrev main_while0b_call6_v4 : Ref sig .tc := ⟨.hbm, 137, rfl⟩
abbrev main_while0b_v66 : Ref sig .tc := ⟨.hbm, 138, rfl⟩
abbrev main_while0b_v67 : Ref sig .tc := ⟨.hbm, 139, rfl⟩
abbrev main_while0b_v68 : Ref sig .tc := ⟨.hbm, 140, rfl⟩
abbrev main_while0b_v69 : Ref sig .tc := ⟨.hbm, 141, rfl⟩
abbrev main_while0b_v70 : Ref sig .tc := ⟨.hbm, 142, rfl⟩
abbrev main_while0b_v71 : Ref sig .tc := ⟨.hbm, 143, rfl⟩
abbrev main_while0b_v72 : Ref sig .tc := ⟨.hbm, 144, rfl⟩
abbrev main_while0b_v73 : Ref sig .tc := ⟨.hbm, 145, rfl⟩
abbrev main_while0b_v74 : Ref sig .tc := ⟨.hbm, 146, rfl⟩
abbrev main_while0b_v75 : Ref sig .tc := ⟨.hbm, 147, rfl⟩
abbrev main_while0b_v76 : Ref sig .tc := ⟨.hbm, 148, rfl⟩
abbrev main_while0b_call7_cst : Ref sig .tc := ⟨.hbm, 149, rfl⟩
abbrev main_while0b_call7_v0 : Ref sig .tc := ⟨.hbm, 150, rfl⟩
abbrev main_while0b_v77 : Ref sig .tc := ⟨.hbm, 151, rfl⟩
abbrev main_while0b_v78 : Ref sig .tc := ⟨.hbm, 152, rfl⟩
abbrev main_while0b_v79 : Ref sig .tc := ⟨.hbm, 153, rfl⟩
abbrev main_while0b_v80 : Ref sig .tc := ⟨.hbm, 154, rfl⟩
abbrev main_while0b_v81 : Ref sig .tc := ⟨.hbm, 155, rfl⟩
abbrev main_while0b_v82 : Ref sig .tc := ⟨.hbm, 156, rfl⟩
abbrev main_while0b_v83 : Ref sig .tc := ⟨.hbm, 157, rfl⟩
abbrev main_while0b_v84 : Ref sig .tc := ⟨.hbm, 158, rfl⟩
abbrev main_while0b_cst_35 : Ref sig .tc := ⟨.hbm, 159, rfl⟩
abbrev main_while0b_v85 : Ref sig .tc := ⟨.hbm, 160, rfl⟩
abbrev main_while0b_v86 : Ref sig .tc := ⟨.hbm, 161, rfl⟩
abbrev main_while0b_cst_36 : Ref sig .tc := ⟨.hbm, 162, rfl⟩
abbrev main_while0b_v87 : Ref sig .tc := ⟨.hbm, 163, rfl⟩
abbrev main_while0b_v88 : Ref sig .tc := ⟨.hbm, 164, rfl⟩
abbrev main_while0b_v89 : Ref sig .tc := ⟨.hbm, 165, rfl⟩
abbrev main_while0b_v90 : Ref sig .tc := ⟨.hbm, 166, rfl⟩
abbrev main_while0b_v91 : Ref sig .tc := ⟨.hbm, 167, rfl⟩
abbrev main_while0b_v92 : Ref sig .tc := ⟨.hbm, 168, rfl⟩
abbrev main_while0b_v93 : Ref sig .tc := ⟨.hbm, 169, rfl⟩
abbrev main_while0b_v94 : Ref sig .tc := ⟨.hbm, 170, rfl⟩
abbrev main_while0b_cst_37 : Ref sig .tc := ⟨.hbm, 171, rfl⟩
abbrev main_while0b_v95 : Ref sig .tc := ⟨.hbm, 172, rfl⟩
abbrev main_while0b_v96 : Ref sig .tc := ⟨.hbm, 173, rfl⟩
abbrev main_while0b_cst_38 : Ref sig .tc := ⟨.hbm, 174, rfl⟩
abbrev main_while0b_v97 : Ref sig .tc := ⟨.hbm, 175, rfl⟩
abbrev main_while0b_v98 : Ref sig .tc := ⟨.hbm, 176, rfl⟩
abbrev main_while0b_v99 : Ref sig .tc := ⟨.hbm, 177, rfl⟩
abbrev main_while0b_v100 : Ref sig .tc := ⟨.hbm, 178, rfl⟩
abbrev main_while0b_v101 : Ref sig .tc := ⟨.hbm, 179, rfl⟩
abbrev main_while0b_v102 : Ref sig .tc := ⟨.hbm, 180, rfl⟩
abbrev main_while0b_v103 : Ref sig .tc := ⟨.hbm, 181, rfl⟩
abbrev main_while0b_v104 : Ref sig .tc := ⟨.hbm, 182, rfl⟩
abbrev main_while0b_cst_39 : Ref sig .tc := ⟨.hbm, 183, rfl⟩
abbrev main_while0b_v105 : Ref sig .tc := ⟨.hbm, 184, rfl⟩
abbrev main_while0b_v106 : Ref sig .tc := ⟨.hbm, 185, rfl⟩
abbrev main_while0b_cst_40 : Ref sig .tc := ⟨.hbm, 186, rfl⟩
abbrev main_while0b_v107 : Ref sig .tc := ⟨.hbm, 187, rfl⟩
abbrev main_while0b_v108 : Ref sig .tc := ⟨.hbm, 188, rfl⟩
abbrev main_while0b_v109 : Ref sig .tc := ⟨.hbm, 189, rfl⟩
abbrev main_while0b_v110 : Ref sig .tc := ⟨.hbm, 190, rfl⟩
abbrev main_while0b_v111 : Ref sig .tc := ⟨.hbm, 191, rfl⟩
abbrev main_while0b_v112 : Ref sig .tc := ⟨.hbm, 192, rfl⟩
abbrev main_while0b_v113 : Ref sig .tc := ⟨.hbm, 193, rfl⟩
abbrev main_while0b_v114 : Ref sig .tc := ⟨.hbm, 194, rfl⟩
abbrev main_while0b_v115 : Ref sig .tc := ⟨.hbm, 195, rfl⟩
abbrev main_while0b_v116 : Ref sig .tc := ⟨.hbm, 196, rfl⟩
abbrev main_while0b_v117 : Ref sig .tc := ⟨.hbm, 197, rfl⟩
abbrev main_while0b_v118 : Ref sig .tc := ⟨.hbm, 198, rfl⟩
abbrev main_while0b_call8_v0 : Ref sig .tc := ⟨.hbm, 199, rfl⟩
abbrev main_while0b_call8_c : Ref sig .tc := ⟨.hbm, 200, rfl⟩
abbrev main_while0b_call8_c_0 : Ref sig .tc := ⟨.hbm, 201, rfl⟩
abbrev main_while0b_v119 : Ref sig .tc := ⟨.hbm, 202, rfl⟩
abbrev main_while0b_c_41 : Ref sig .tc := ⟨.hbm, 203, rfl⟩
abbrev main_while0b_v120 : Ref sig .tc := ⟨.hbm, 204, rfl⟩
abbrev main_v9 : Ref sig .tc := ⟨.hbm, 205, rfl⟩

abbrev nD : Nat := 1
abbrev τ : Topo := Topo.v7x

variable {F : FTy → Type} [FloatOps F]

abbrev main_while0_count : Scf.Loop 32 := ⟨0#32, 20#32, 1#32⟩
-- ==== Proof.KernelStep.lean ====
/-
  One step of the kernel as a function of its words: what a trip of either of its loops yields, written once with the
  batch as a variable, and the two trips' finds shown to be it.
-/
module

public import proofs.«01_k».proof.Proof.Gen.KernelIdeal.Loops

@[expose] public section

noncomputable section

namespace Cert.KernelIdeal.Step

open Cert.KernelIdeal Cert.KernelIdeal.Gen Idealize.ShloMosaic Idealize.ShloMosaic.TcCoe Idealize.ShloMosaic.Tactic

variable {F : FTy → Type} [FloatOps F]

theorem slices_cells (b : Fin 8) : S8x64x64.Slices ![b.val, 0, 0] S1x64x64 := by revert b; decide
theorem slices_batch (b : Fin 8) : S512x128.Slices ![64 * b.val, 0] S64x128 := by revert b; decide
theorem slices_piece (g : Fin 64) : S64x4096.Slices ![0, 64 * g.val] S64x64 := by revert g; decide +kernel

/-- The embedding of a velocity: one product per coordinate, and the bias. -/
def emb (w0 w1 b : FVec F S1x64 .f32) (vel : FVec F S512x2 .f32) : FVec F S512x64 .f32 :=
  addf (addf
    (mulf (broadcastTo S512x64 (extractStridedSlice S512x1 ![0, 0] vel slices_S512x2_o0_0_S512x1) broadcasts_S512x1_S512x64)
      (broadcastTo S512x64 w0 broadcasts_S1x64_S512x64))
    (mulf (broadcastTo S512x64 (extractStridedSlice S512x1 ![0, 1] vel slices_S512x2_o0_1_S512x1) broadcasts_S512x1_S512x64)
      (broadcastTo S512x64 w1 broadcasts_S1x64_S512x64)))
    (broadcastTo S512x64 b broadcasts_S1x64_S512x64)

/-- One coordinate of a position, agent `j` against agent `i` of a batch: the grid number it falls in. -/
def grid (x : FVec F S8x64 .f32) : IVec S8x64x64 32 :=
  fptosi 32 (addf (minimumf (broadcast S8x64x64 (Scalar.sitofp .f32 4#32)) (maximumf
    (broadcast S8x64x64 (Scalar.sitofp .f32 4294967292#32))
    (divf (subf (broadcastTo S8x64x64 (shapeCast S8x64x1 x shapeCasts_S8x64_S8x64x1) broadcasts_S8x64x1_S8x64x64)
        (broadcastTo S8x64x64 (shapeCast S8x1x64 x shapeCasts_S8x64_S8x1x64) broadcasts_S8x1x64_S8x64x64))
      (broadcast S8x64x64 (Scalar.ofBits .f32 0x3E924925#32)))))
    (broadcast S8x64x64 (Scalar.ofBits .f32 0x40800000#32)))

/-- The first coordinate of the positions, by batch and agent. -/
def fst (pos : FVec F S512x2 .f32) : FVec F S8x64 .f32 :=
  shapeCast S8x64 (extractStridedSlice S8x64x1 ![0, 0, 0] (shapeCast S8x64x2 pos shapeCasts_S512x2_S8x64x2)
    slices_S8x64x2_o0_0_0_S8x64x1) shapeCasts_S8x64x1_S8x64

/-- The second coordinate of the positions, by batch and agent. -/
def snd (pos : FVec F S512x2 .f32) : FVec F S8x64 .f32 :=
  shapeCast S8x64 (extractStridedSlice S8x64x1 ![0, 0, 1] (shapeCast S8x64x2 pos shapeCasts_S512x2_S8x64x2)
    slices_S8x64x2_o0_0_1_S8x64x1) shapeCasts_S8x64x1_S8x64

/-- The cell of agent `j` seen from agent `i`, or minus one if it is none. -/
def cells (pos : FVec F S512x2 .f32) : IVec S8x64x64 32 :=
  select (andi (andi (cmpi .slt (grid (fst pos)) (broadcast S8x64x64 8#32)) (cmpi .slt (grid (snd pos)) (broadcast S8x64x64 8#32)))
      (broadcastTo S8x64x64 (shapeCast S1x64x64
        (cmpi .ne (iota .tc S64x64 32 [0] iota_S64x64_d0_w32) (iota .tc S64x64 32 [1] iota_S64x64_d1_w32))
        shapeCasts_S64x64_S1x64x64) broadcasts_S1x64x64_S8x64x64))
    (addi (muli (grid (snd pos)) (broadcast S8x64x64 8#32)) (grid (fst pos)))
    (broadcast S8x64x64 4294967295#32)

/-- Batch `b`'s table of ones: row `(j, g)`, column `i`, is one where `j` lies in cell `g` of `i`. -/
def table (b : Fin 8) (cell : IVec S8x64x64 32) : FVec F S4096x64 .f32 :=
  shapeCast S4096x64 (sitofp .f32 (extui 32 (cmpi .eq
    (broadcastTo S64x64x64 (shapeCast S64x1x64 (shapeCast S64x64 (extractStridedSlice S1x64x64 ![b.val, 0, 0] cell (slices_cells b))
      shapeCasts_S1x64x64_S64x64) shapeCasts_S64x64_S64x1x64) broadcasts_S64x1x64_S64x64x64)
    (broadcastTo S64x64x64 (iota .tc S1x64x1 32 [1] iota_S1x64x1_d1_w32) broadcasts_S1x64x1_S64x64x64)) natLt_1_32))
    shapeCasts_S64x64x64_S4096x64

/-- Batch `b`'s hidden states times every cell's weights. -/
def batchU (b : Fin 8) (wpr : FVec F S128x4096 .f32) (h : FVec F S512x128 .f32) : FVec F S64x4096 .f32 :=
  matmul dot_S64x128_S128x4096_S64x4096_1_0_0_1_n_n none
    (extractStridedSlice S64x128 ![64 * b.val, 0] h (slices_batch b)) wpr (constant S64x4096 .f32 0x00000000#32)

/-- The same with the cells as an axis of their own: piece `g` is the columns of cell `g`. -/
def pieces (u : FVec F S64x4096 .f32) : FVec F S64x64x64 .f32 :=
  concatenate S64x64x64 1 (List.ofFn fun g : Fin 64 => ⟨S64x1x64,
      shapeCast S64x1x64 (extractStridedSlice S64x64 ![0, 64 * g.val] u (slices_piece g)) shapeCasts_S64x64_S64x1x64⟩)
    concatenates_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x1x64_S64x64x64_d1

/-- Batch `b` pooled: its table against its products, summed over agents and cells. -/
def pool (cell : IVec S8x64x64 32) (wpr : FVec F S128x4096 .f32) (h : FVec F S512x128 .f32) (b : Fin 8) : FVec F S64x64 .f32 :=
  matmul dot_S4096x64_S4096x64_S64x64_0_0_1_1_n_n none (table b cell)
    (shapeCast S4096x64 (pieces (batchU b wpr h)) shapeCasts_S64x64x64_S4096x64) (constant S64x64 .f32 0x00000000#32)

/-- The pooled batches one under another, with the bias, cut off below at zero. -/
def social (cell : IVec S8x64x64 32) (wpr : FVec F S128x4096 .f32) (bp : FVec F S1x64 .f32) (h : FVec F S512x128 .f32) :
    FVec F S512x64 .f32 :=
  maximumf (addf (concatenate S512x64 0 (List.ofFn fun b : Fin 8 => ⟨S64x64, pool cell wpr h b⟩)
      concatenates_S64x64_S64x64_S64x64_S64x64_S64x64_S64x64_S64x64_S64x64_S512x64_d0)
    (broadcastTo S512x64 bp broadcasts_S1x64_S512x64)) (broadcast S512x64 (Scalar.ofBits .f32 0x00000000#32))

/-- The four gates' preactivations side by side. -/
def preact (wx : FVec F S64x512 .f32) (wh : FVec F S128x512 .f32) (ws : FVec F S64x512 .f32) (bz : FVec F S1x512 .f32)
    (e : FVec F S512x64 .f32) (h : FVec F S512x128 .f32) (s : FVec F S512x64 .f32) : FVec F S512x512 .f32 :=
  addf (addf (addf
      (matmul dot_S512x64_S64x512_S512x512_1_0_0_1_n_n none e wx (constant S512x512 .f32 0x00000000#32))
      (matmul dot_S512x128_S128x512_S512x512_1_0_0_1_n_n none h wh (constant S512x512 .f32 0x00000000#32)))
      (matmul dot_S512x64_S64x512_S512x512_1_0_0_1_n_n none s ws (constant S512x512 .f32 0x00000000#32)))
    (broadcastTo S512x512 bz broadcasts_S1x512_S512x512)

/-- The new cell state. -/
def cell' (z : FVec F S512x512 .f32) (c : FVec F S512x128 .f32) : FVec F S512x128 .f32 :=
  addf (mulf (logistic (extractStridedSlice S512x128 ![0, 128] z slices_S512x512_o0_128_S512x128)) c)
    (mulf (logistic (extractStridedSlice S512x128 ![0, 0] z slices_S512x512_o0_0_S512x128))
      (tanh (extractStridedSlice S512x128 ![0, 384] z slices_S512x512_o0_384_S512x128)))

/-- The new hidden state. -/
def hid' (z : FVec F S512x512 .f32) (c : FVec F S512x128 .f32) : FVec F S512x128 .f32 :=
  mulf (logistic (extractStridedSlice S512x128 ![0, 256] z slices_S512x512_o0_256_S512x128)) (tanh (cell' z c))

/-- The predicted velocity. -/
def predict (w : FVec F S128x2 .f32) (b : FVec F S1x2 .f32) (h : FVec F S512x128 .f32) : FVec F S512x2 .f32 :=
  addf (matmul dot_S512x128_S128x2_S512x2_1_0_0_1_n_n none h w (constant S512x2 .f32 0x00000000#32))
    (broadcastTo S512x2 b broadcasts_S1x2_S512x2)

/-- One step: the gates of the embedded velocity, the hidden state and the pooled neighbours. -/
def lstm (wpr : FVec F S128x4096 .f32) (bp : FVec F S1x64 .f32) (wx : FVec F S64x512 .f32) (wh : FVec F S128x512 .f32)
    (ws : FVec F S64x512 .f32) (bz : FVec F S1x512 .f32) (e : FVec F S512x64 .f32) (pos : FVec F S512x2 .f32)
    (h c : FVec F S512x128 .f32) : FVec F S512x128 .f32 × FVec F S512x128 .f32 :=
  let z := preact wx wh ws bz e h (social (cells pos) wpr bp h)
  (hid' z c, cell' z c)

/-- What a trip of the first loop yields: the step at the given velocity and position. -/
theorem trip1_eq (𝒱 : Variants) (c : Dev nD) (bd : Option 𝒱.V) (arg0 : Memref sig .tc .vmem S8x512x2 .f32) (harg0 : arg0.IsWhole) (arg1
    : Memref sig .tc .vmem S8x512x2 .f32) (harg1 : arg1.IsWhole) (arg2 : Memref sig .tc .vmem S2x64 .f32) (harg2 :
    arg2.IsWhole) (arg3 : Memref sig .tc .vmem S1x64 .f32) (harg3 : arg3.IsWhole) (arg4 : Memref sig .tc .vmem S128x4096
    .f32) (harg4 : arg4.IsWhole) (arg5 : Memref sig .tc .vmem S1x64 .f32) (harg5 : arg5.IsWhole) (arg6 : Memref sig .tc
    .vmem S64x512 .f32) (harg6 : arg6.IsWhole) (arg7 : Memref sig .tc .vmem S128x512 .f32) (harg7 : arg7.IsWhole) (arg8 :
    Memref sig .tc .vmem S64x512 .f32) (harg8 : arg8.IsWhole) (arg9 : Memref sig .tc .vmem S1x512 .f32) (harg9 :
    arg9.IsWhole) (arg10 : Memref sig .tc .vmem S128x2 .f32) (harg10 : arg10.IsWhole) (arg11 : Memref sig .tc .vmem S1x2
    .f32) (harg11 : arg11.IsWhole) (arg12 : Memref sig .tc .vmem S12x512x2 .f32) (harg12 : arg12.IsWhole) (v0 : Vec F
    S1x64 .f32) (v1 : Vec F S1x64 .f32) (v2 : Vec F S1x64 .f32) (v4 : Vec F S128x4096 .f32) (v6 : Vec F S1x64 .f32) (v8 :
    Vec F S64x512 .f32) (v10 : Vec F S128x512 .f32) (v12 : Vec F S64x512 .f32) (v14 : Vec F S1x512 .f32) (X_arg0 :
    BufTy.Contents (Elt F) arg0.view.ty) (X_arg1 : BufTy.Contents (Elt F) arg1.view.ty) (k : Fin k0_t1_loop.trips) (acc :
    FVec F S512x128 .f32 × FVec F S512x128 .f32) :
    tripR_k0_t1 (F := F) 𝒱 c bd arg0 harg0 arg1 harg1 arg2 harg2 arg3 harg3 arg4 harg4 arg5 harg5 arg6 harg6 arg7 harg7 arg8 harg8
        arg9 harg9 arg10 harg10 arg11 harg11 arg12 harg12 v0 v1 v2 v4 v6 v8 v10 v12 v14 (iota .tc S1x64x1 32 [1]
        iota_S1x64x1_d1_w32) X_arg0 X_arg1 k acc
      = lstm (k0_pay865 v4) (k0_pay866 v6) (k0_pay867 v8) (k0_pay868 v10) (k0_pay869 v12) (k0_pay870 v14)
          (emb v0 v1 (k0_pay864 v2) (shapeCast S512x2 (View.readAt (Elt F) arg0.view
            (Rect.unit (s := S8x512x2) (k0_off1 k) S1x512x2.size (k0_off1_inb k)).toLoadRect X_arg0) shapeCasts_S1x512x2_S512x2))
          (shapeCast S512x2 (View.readAt (Elt F) arg1.view
            (Rect.unit (s := S8x512x2) (k0_off1 k) S1x512x2.size (k0_off1_inb k)).toLoadRect X_arg1) shapeCasts_S1x512x2_S512x2)
          acc.1 acc.2 := by
  unfold tripR_k0_t1 trip_k0_t1
  dsimp only
  sl_unfold_words
  rfl

/-- What a trip of the second loop yields: the step at the velocity it predicts and the position that leads to. -/
theorem trip2_eq (𝒱 : Variants) (c : Dev nD) (bd : Option 𝒱.V) (arg0 : Memref sig .tc .vmem S8x512x2 .f32) (harg0 : arg0.IsWhole) (arg1
    : Memref sig .tc .vmem S8x512x2 .f32) (harg1 : arg1.IsWhole) (arg2 : Memref sig .tc .vmem S2x64 .f32) (harg2 :
    arg2.IsWhole) (arg3 : Memref sig .tc .vmem S1x64 .f32) (harg3 : arg3.IsWhole) (arg4 : Memref sig .tc .vmem S128x4096
    .f32) (harg4 : arg4.IsWhole) (arg5 : Memref sig .tc .vmem S1x64 .f32) (harg5 : arg5.IsWhole) (arg6 : Memref sig .tc
    .vmem S64x512 .f32) (harg6 : arg6.IsWhole) (arg7 : Memref sig .tc .vmem S128x512 .f32) (harg7 : arg7.IsWhole) (arg8 :
    Memref sig .tc .vmem S64x512 .f32) (harg8 : arg8.IsWhole) (arg9 : Memref sig .tc .vmem S1x512 .f32) (harg9 :
    arg9.IsWhole) (arg10 : Memref sig .tc .vmem S128x2 .f32) (harg10 : arg10.IsWhole) (arg11 : Memref sig .tc .vmem S1x2
    .f32) (harg11 : arg11.IsWhole) (arg12 : Memref sig .tc .vmem S12x512x2 .f32) (harg12 : arg12.IsWhole) (v0 : Vec F
    S1x64 .f32) (v1 : Vec F S1x64 .f32) (v3 : FVec F S1x64 .f32) (v5 : FVec F S128x4096 .f32) (v7 : FVec F S1x64 .f32) (v9
    : FVec F S64x512 .f32) (v11 : FVec F S128x512 .f32) (v13 : FVec F S64x512 .f32) (v15 : FVec F S1x512 .f32) (v16 : Vec
    F S128x2 .f32) (v18 : FVec F S1x2 .f32) (k : Fin k0_t2_loop.trips) (acc : FVec F S512x128 .f32 × FVec F S512x128 .f32
    × FVec F S512x2 .f32) :
    tripR_k0_t2 (F := F) 𝒱 c bd arg0 harg0 arg1 harg1 arg2 harg2 arg3 harg3 arg4 harg4 arg5 harg5 arg6 harg6 arg7 harg7 arg8 harg8
        arg9 harg9 arg10 harg10 arg11 harg11 arg12 harg12 v0 v1 v3 v5 v7 v9 v11 v13 v15 v16 v18 k0_pay872 (iota
        .tc S1x64x1 32 [1] iota_S1x64x1_d1_w32) k acc
      = (let v := predict v16 v18 acc.1
         let p := addf acc.2.2 v
         let s := lstm v5 v7 v9 v11 v13 v15 (emb v0 v1 v3 v) p acc.1 acc.2.1
         (s.1, s.2, p)) := by
  unfold tripR_k0_t2 trip_k0_t2
  dsimp only
  sl_unfold_words
  rfl

/-- What a trip of the second loop stores: the velocity it predicts, in the trip's row. -/
theorem trip2_stores (𝒱 : Variants) (c : Dev nD) (bd : Option 𝒱.V) (arg0 : Memref sig .tc .vmem S8x512x2 .f32) (harg0 : arg0.IsWhole) (arg1
    : Memref sig .tc .vmem S8x512x2 .f32) (harg1 : arg1.IsWhole) (arg2 : Memref sig .tc .vmem S2x64 .f32) (harg2 :
    arg2.IsWhole) (arg3 : Memref sig .tc .vmem S1x64 .f32) (harg3 : arg3.IsWhole) (arg4 : Memref sig .tc .vmem S128x4096
    .f32) (harg4 : arg4.IsWhole) (arg5 : Memref sig .tc .vmem S1x64 .f32) (harg5 : arg5.IsWhole) (arg6 : Memref sig .tc
    .vmem S64x512 .f32) (harg6 : arg6.IsWhole) (arg7 : Memref sig .tc .vmem S128x512 .f32) (harg7 : arg7.IsWhole) (arg8 :
    Memref sig .tc .vmem S64x512 .f32) (harg8 : arg8.IsWhole) (arg9 : Memref sig .tc .vmem S1x512 .f32) (harg9 :
    arg9.IsWhole) (arg10 : Memref sig .tc .vmem S128x2 .f32) (harg10 : arg10.IsWhole) (arg11 : Memref sig .tc .vmem S1x2
    .f32) (harg11 : arg11.IsWhole) (arg12 : Memref sig .tc .vmem S12x512x2 .f32) (harg12 : arg12.IsWhole) (v0 : Vec F
    S1x64 .f32) (v1 : Vec F S1x64 .f32) (v3 : FVec F S1x64 .f32) (v5 : FVec F S128x4096 .f32) (v7 : FVec F S1x64 .f32) (v9
    : FVec F S64x512 .f32) (v11 : FVec F S128x512 .f32) (v13 : FVec F S64x512 .f32) (v15 : FVec F S1x512 .f32) (v16 : Vec
    F S128x2 .f32) (v18 : FVec F S1x2 .f32) (k : Fin k0_t2_loop.trips) (acc : FVec F S512x128 .f32 × FVec F S512x128 .f32
    × FVec F S512x2 .f32) :
    tripL_k0_t2 (F := F) 𝒱 c bd arg0 harg0 arg1 harg1 arg2 harg2 arg3 harg3 arg4 harg4 arg5 harg5 arg6 harg6 arg7 harg7 arg8 harg8
        arg9 harg9 arg10 harg10 arg11 harg11 arg12 harg12 v0 v1 v3 v5 v7 v9 v11 v13 v15 v16 v18 k0_pay872 (iota
        .tc S1x64x1 32 [1] iota_S1x64x1_d1_w32) k acc
      = [⟨Rect.unit (s := S12x512x2) (k0_off2 k) S1x512x2.size (k0_off2_inb k),
          shapeCast S1x512x2 (predict v16 v18 acc.1) shapeCasts_S512x2_S1x512x2⟩] := by
  unfold tripL_k0_t2 trip_k0_t2
  dsimp only
  sl_unfold_words
  rfl

end Cert.KernelIdeal.Step

end
-- ==== Proof.KernelRun.lean ====
/-
  The kernel's run as two sequences of states: the steps at the given velocities and positions, then the steps at the
  predicted ones; and its output, row by row, as the predictions along the second.
-/
module

public import proofs.«01_k».proof.Proof.KernelStep
public import proofs.«01_k».proof.Proof.Gen.KernelIdeal.Value
public import Idealize.ShloMosaic.Lib.Pipeline.ValueKit
public import Idealize.ShloMosaic.Lib.PointwiseCore

@[expose] public section

noncomputable section

namespace Cert.KernelIdeal.Step

open Cert.KernelIdeal Cert.KernelIdeal.Gen Idealize.ShloMosaic Idealize.ShloMosaic.TcCoe Idealize.ShloMosaic.Tactic

variable {F : FTy → Type} [FloatOps F]

/-- The weights a step reads. -/
structure Par (F : FTy → Type) [FloatOps F] where
  w0 : FVec F S1x64 .f32
  w1 : FVec F S1x64 .f32
  b : FVec F S1x64 .f32
  wpr : FVec F S128x4096 .f32
  bp : FVec F S1x64 .f32
  wx : FVec F S64x512 .f32
  wh : FVec F S128x512 .f32
  ws : FVec F S64x512 .f32
  bz : FVec F S1x512 .f32
  wo : FVec F S128x2 .f32
  bo : FVec F S1x2 .f32

/-- A step at velocity `vel` and position `pos`. -/
def adv (P : Par F) (vel pos : FVec F S512x2 .f32) (s : FVec F S512x128 .f32 × FVec F S512x128 .f32) :
    FVec F S512x128 .f32 × FVec F S512x128 .f32 :=
  lstm P.wpr P.bp P.wx P.wh P.ws P.bz (emb P.w0 P.w1 P.b vel) pos s.1 s.2

/-- Row `k` of the given eight. -/
def row (x : FVec F S8x512x2 .f32) (k : ℕ) : FVec F S512x2 .f32 :=
  fun j => x (ix3 ⟨k % 8, Nat.mod_lt _ (by decide)⟩ (j 0) (j 1))

/-- The states along the given rows. -/
def given (P : Par F) (xv xp : FVec F S8x512x2 .f32) : ℕ → FVec F S512x128 .f32 × FVec F S512x128 .f32
  | 0 => (broadcast S512x128 (Scalar.ofBits .f32 0x00000000#32), broadcast S512x128 (Scalar.ofBits .f32
      0x00000000#32))
  | k + 1 => adv P (row xv k) (row xp k) (given P xv xp k)

/-- The states, with the position, along the predictions. -/
def guess (P : Par F) (s : FVec F S512x128 .f32 × FVec F S512x128 .f32 × FVec F S512x2 .f32) :
    ℕ → FVec F S512x128 .f32 × FVec F S512x128 .f32 × FVec F S512x2 .f32
  | 0 => s
  | k + 1 =>
    let g := guess P s k
    let v := predict P.wo P.bo g.1
    let p := addf g.2.2 v
    let n := adv P v p (g.1, g.2.1)
    (n.1, n.2, p)

/-- Where the predictions start. -/
def start (P : Par F) (xv xp : FVec F S8x512x2 .f32) : FVec F S512x128 .f32 × FVec F S512x128 .f32 × FVec F S512x2
    .f32 :=
  ((given P xv xp 8).1, (given P xv xp 8).2, row xp 7)

/-- The predicted velocities, row by row. -/
def rows (P : Par F) (s : FVec F S512x128 .f32 × FVec F S512x128 .f32 × FVec F S512x2 .f32) : FVec F S12x512x2 .f32 :=
  fun y => predict P.wo P.bo (guess P s (y 0).val).1 (ix2 (n0 := 512) (n1 := 2) (y 1) (y 2))

/-- Row `r` of the two rows. -/
def wrow (x : FVec F S2x64 .f32) (r : Fin 2) : FVec F S1x64 .f32 := fun j => x (ix2 r (j 1))

/-- The weights as the windows hold them. -/
def par (x2 : Vec F S2x64 .f32) (x3 : Vec F S1x64 .f32) (x4 : Vec F S128x4096 .f32) (x5 : Vec F S1x64 .f32)
    (x6 : Vec F S64x512 .f32) (x7 : Vec F S128x512 .f32) (x8 : Vec F S64x512 .f32) (x9 : Vec F S1x512 .f32)
    (x10 : Vec F S128x2 .f32) (x11 : Vec F S1x2 .f32) : Par F where
  w0 := wrow x2 0
  w1 := wrow x2 1
  b := x3
  wpr := x4
  bp := x5
  wx := x6
  wh := x7
  ws := x8
  bz := x9
  wo := x10
  bo := x11

theorem zero2 : (![0, 0] : Fin 2 → Nat) = fun _ => 0 := funext fun a => by fin_cases a <;> rfl

/-- A loaded row with its leading axis dropped is the row. -/
theorem row_read (x : FVec F S8x512x2 .f32) (o : Fin 3 → Nat) (k : ℕ) (hk : k < 8) (ho : o = ![k, 0, 0])
    (inb : ∀ a, o a + S1x512x2.size a ≤ S8x512x2.size a) (h : S1x512x2.ShapeCasts S512x2) :
    shapeCast S512x2 (View.ld (Val := Elt F) (e' := .f32) x (Rect.unit (s := S8x512x2) o S1x512x2.size inb)) h = row x
        k := by
  subst ho
  funext j
  rw [shapeCast_dropUnit_apply (d := ![512, 2])]
  refine congrArg x (funext fun a => Fin.ext ((Rect.idx_unit_val _ _ _ _ a).trans ?_))
  match a with
  | ⟨0, _⟩ => exact (Nat.mod_eq_of_lt hk).symm
  | ⟨1, _⟩ => exact Nat.zero_add _
  | ⟨2, _⟩ => exact Nat.zero_add _

/-- A row of the two-row weights, loaded. -/
theorem w_read (x : FVec F S2x64 .f32) (r : Fin 2) (inb : ∀ a, (![r.val, 0] : Fin 2 → Nat) a + S1x64.size a ≤
    S2x64.size a) :
    View.ld (Val := Elt F) (e' := .f32) x (Rect.unit (s := S2x64) ![r.val, 0] S1x64.size inb)
      = wrow x r := by
  funext j
  refine congrArg x (funext fun a => Fin.ext ((Rect.idx_unit_val _ _ _ _ a).trans ?_))
  match a with
  | ⟨0, _⟩ => exact (by have : (j 0).val < 1 := (j 0).isLt
                        show r.val + (j 0).val = r.val
                        omega)
  | ⟨1, _⟩ => exact Nat.zero_add _

/-- What a trip stores is the row of the predictions its rectangle names. -/
theorem piece_row (P : Par F) (s : FVec F S512x128 .f32 × FVec F S512x128 .f32 × FVec F S512x2 .f32) (k : ℕ)
    (v : FVec F S512x2 .f32) (hv : v = predict P.wo P.bo (guess P s k).1) {o : Fin 3 → Nat} (ho : o = ![k, 0, 0])
    (inb : ∀ a, o a + S1x512x2.size a ≤ S12x512x2.size a) (h : S512x2.ShapeCasts S1x512x2)
    (x : (Rect.unit (s := S12x512x2) o S1x512x2.size inb).shape.Idx) :
    shapeCast S1x512x2 v h x = rows P s ((Rect.unit (s := S12x512x2) o S1x512x2.size inb).emb x) := by
  subst ho
  rw [shapeCast_addUnit_apply (d := ![512, 2]), hv]
  have hx0 : (x 0).val < 1 := (x 0).isLt
  have e0 : ((Rect.unit (s := S12x512x2) ![k, 0, 0] S1x512x2.size inb).emb x 0).val = k :=
    (Rect.idx_unit_val _ _ _ x 0).trans (by
      show k + (x 0).val = k
      omega)
  unfold rows
  rw [e0]
  congr 1
  funext a
  match a with
  | ⟨0, _⟩ => exact Fin.ext ((Nat.zero_add _).symm.trans (Rect.idx_unit_val _ _ _ x 1).symm)
  | ⟨1, _⟩ => exact Fin.ext ((Nat.zero_add _).symm.trans (Rect.idx_unit_val _ _ _ x 2).symm)

section loops

variable (c : Dev nD) (arg0 : Memref sig .tc .vmem S8x512x2 .f32) (harg0 : arg0.IsWhole) (arg1 : Memref sig .tc .vmem
    S8x512x2 .f32) (harg1
    : arg1.IsWhole) (arg2 : Memref sig .tc .vmem S2x64 .f32) (harg2 : arg2.IsWhole) (arg3 : Memref sig .tc .vmem S1x64
    .f32) (harg3 : arg3.IsWhole) (arg4 : Memref sig .tc .vmem S128x4096 .f32) (harg4 : arg4.IsWhole) (arg5 : Memref
    sig .tc .vmem S1x64 .f32) (harg5 : arg5.IsWhole) (arg6 : Memref sig .tc .vmem S64x512 .f32) (harg6 : arg6.IsWhole)
    (arg7 : Memref sig .tc .vmem S128x512 .f32) (harg7 : arg7.IsWhole) (arg8 : Memref sig .tc .vmem S64x512 .f32)
    (harg8 : arg8.IsWhole) (arg9 : Memref sig .tc .vmem S1x512 .f32) (harg9 : arg9.IsWhole) (arg10 : Memref sig .tc
    .vmem S128x2 .f32) (harg10 : arg10.IsWhole) (arg11 : Memref sig .tc .vmem S1x2 .f32) (harg11 : arg11.IsWhole)
    (arg12 : Memref sig .tc .vmem S12x512x2 .f32) (harg12 : arg12.IsWhole)

/-- The first loop's states are the states along the given rows. -/
theorem given_eq (v0 v1 v2 : Vec F S1x64 .f32) (v4 : Vec F S128x4096 .f32) (v6 : Vec F S1x64 .f32) (v8 : Vec F S64x512
    .f32)
    (v10 : Vec F S128x512 .f32) (v12 : Vec F S64x512 .f32) (v14 : Vec F S1x512 .f32) (x0 x1 : Vec F S8x512x2 .f32)
    (P : Par F) (h0 : P.w0 = v0) (h1 : P.w1 = v1) (h2 : P.b = k0_pay864 v2) (h4 : P.wpr = k0_pay865 v4)
    (h6 : P.bp = k0_pay866 v6) (h8 : P.wx = k0_pay867 v8) (h10 : P.wh = k0_pay868 v10) (h12 : P.ws = k0_pay869 v12)
    (h14 : P.bz = k0_pay870 v14) : ∀ k ≤ k0_t1_loop.trips,
    st_k0_t1 (F := F) Variants.none c none arg0 harg0 arg1 harg1 arg2 harg2 arg3 harg3 arg4 harg4 arg5 harg5 arg6
        harg6 arg7 harg7 arg8 harg8 arg9 harg9 arg10 harg10 arg11 harg11 arg12 harg12 v0 v1 v2 v4 v6 v8 v10 v12 v14
        (iota .tc S1x64x1 32 [1] iota_S1x64x1_d1_w32) (harg0.unread x0) (harg1.unread x1) (k0_pay873, k0_pay874) k
      = given P x0 x1 k
  | 0, _ => rfl
  | k + 1, hk => by
    have ih := given_eq v0 v1 v2 v4 v6 v8 v10 v12 v14 x0 x1 P h0 h1 h2 h4 h6 h8 h10 h12 h14 k (by omega)
    have h8' : k < 8 := lt_of_lt_of_le hk k0_t1_abs.2.1
    refine (st_k0_t1_succ (F := F) Variants.none c none arg0 harg0 arg1 harg1 arg2 harg2 arg3 harg3 arg4 harg4 arg5
        harg5 arg6 harg6 arg7 harg7 arg8 harg8 arg9 harg9 arg10 harg10 arg11 harg11 arg12 harg12 v0 v1 v2 v4 v6 v8 v10
        v12 v14 _ _ _ _ ⟨k, hk⟩).trans ?_
    rw [trip1_eq]
    dsimp only
    rw [View.readAt_eq_ld, View.readAt_eq_ld, harg0.read_unread, harg1.read_unread,
      row_read x0 _ k h8' (k0_off1_eq ⟨k, hk⟩), row_read x1 _ k h8' (k0_off1_eq ⟨k, hk⟩), ih, ← h0, ← h1, ← h2, ← h4,
          ← h6,
      ← h8, ← h10, ← h12, ← h14]
    rfl

/-- The second loop's states are the states along the predictions, and what it has stored are rows of them. -/
theorem guess_eq (v0 v1 v3 : Vec F S1x64 .f32) (v5 : Vec F S128x4096 .f32) (v7 : Vec F S1x64 .f32) (v9 : Vec F S64x512
    .f32)
    (v11 : Vec F S128x512 .f32) (v13 : Vec F S64x512 .f32) (v15 : Vec F S1x512 .f32) (v16 : Vec F S128x2 .f32)
    (v18 : Vec F S1x2 .f32) (s : FVec F S512x128 .f32 × FVec F S512x128 .f32 × FVec F S512x2 .f32)
    (P : Par F) (hP : P = ⟨v0, v1, v3, v5, v7, v9, v11, v13, v15, v16, v18⟩) : ∀ k ≤ k0_t2_loop.trips,
    (st_k0_t2 (F := F) Variants.none c none arg0 harg0 arg1 harg1 arg2 harg2 arg3 harg3 arg4 harg4 arg5 harg5 arg6
        harg6 arg7 harg7 arg8 harg8 arg9 harg9 arg10 harg10 arg11 harg11 arg12 harg12 v0 v1 v3 v5 v7 v9 v11 v13 v15
        v16 v18 k0_pay872 (iota .tc S1x64x1 32 [1] iota_S1x64x1_d1_w32) s k).1 = guess P s k
    ∧ ∀ p ∈ (st_k0_t2 (F := F) Variants.none c none arg0 harg0 arg1 harg1 arg2 harg2 arg3 harg3 arg4 harg4 arg5 harg5
        arg6 harg6 arg7 harg7 arg8 harg8 arg9 harg9 arg10 harg10 arg11 harg11 arg12 harg12 v0 v1 v3 v5 v7 v9 v11 v13
        v15 v16 v18 k0_pay872 (iota .tc S1x64x1 32 [1] iota_S1x64x1_d1_w32) s k).2,
      ∀ x : p.1.shape.Idx, p.2 x = rows P s (p.1.emb x)
  | 0, _ => ⟨rfl, fun p hp => absurd hp (List.not_mem_nil)⟩
  | k + 1, hk => by
    obtain ⟨ih1, ih2⟩ := guess_eq v0 v1 v3 v5 v7 v9 v11 v13 v15 v16 v18 s P hP k (by omega)
    have e := st_k0_t2_succ (F := F) Variants.none c none arg0 harg0 arg1 harg1 arg2 harg2 arg3 harg3 arg4 harg4 arg5
        harg5 arg6 harg6 arg7 harg7 arg8 harg8 arg9 harg9 arg10 harg10 arg11 harg11 arg12 harg12 v0 v1 v3 v5 v7 v9 v11
        v13 v15 v16 v18 k0_pay872 (iota .tc S1x64x1 32 [1] iota_S1x64x1_d1_w32) s ⟨k, hk⟩
    rw [trip2_eq, trip2_stores] at e
    dsimp only at e
    rw [e, ih1]
    refine ⟨by subst hP; rfl, fun p hp => ?_⟩
    rcases List.mem_cons.mp hp with rfl | hp
    · exact piece_row P s k (predict v16 v18 (guess P s k).1) (by subst hP; rfl) (k0_off2_eq ⟨k, hk⟩) (k0_off2_inb ⟨k,
        hk⟩)
        shapeCasts_S512x2_S1x512x2
    · exact ih2 p hp

/-- The kernel's output: the predictions, row by row. -/
theorem out_eq (x0 : Vec F S8x512x2 .f32) (x1 : Vec F S8x512x2 .f32) (x2 : Vec F S2x64 .f32) (x3 : Vec F S1x64 .f32)
    (x4 : Vec F S128x4096 .f32) (x5 : Vec F S1x64 .f32) (x6 : Vec F S64x512 .f32) (x7 : Vec F S128x512 .f32) (x8 : Vec
    F S64x512 .f32) (x9 : Vec F S1x512 .f32) (x10 : Vec F S128x2 .f32) (x11 : Vec F S1x2 .f32) :
    out0_A_12 (F := F) c arg0 harg0 arg1 harg1 arg2 harg2 arg3 harg3 arg4 harg4 arg5 harg5 arg6 harg6 arg7 harg7 arg8
        harg8 arg9 harg9 arg10 harg10 arg11 harg11 arg12 harg12 x0 x1 x2 x3 x4 x5 x6 x7 x8 x9 x10 x11
      = rows (par x2 x3 x4 x5 x6 x7 x8 x9 x10 x11) (start (par x2 x3 x4 x5 x6 x7 x8 x9 x10 x11) x0 x1) := by
  have hc := cover0_A_12 (F := F) c arg0 harg0 arg1 harg1 arg2 harg2 arg3 harg3 arg4 harg4 arg5 harg5 arg6 harg6 arg7
      harg7 arg8 harg8 arg9 harg9 arg10 harg10 arg11 harg11 arg12 harg12 x0 x1 x2 x3 x4 x5 x6 x7 x8 x9 x10 x11
  unfold out0_A_12
  rw [View.read_writes_eq_canon _ _ _ hc]
  funext y
  refine View.canon_apply_of_pieces _ _ ?_ y (hc y)
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, View.ld_unit_zero (S := S1x64) zero2, View.ld_unit_zero (S := S128x4096) zero2,
    View.ld_unit_zero (S := S64x512) zero2, View.ld_unit_zero (S := S128x512) zero2, View.ld_unit_zero (S := S1x512) zero2,
    View.ld_unit_zero (S := S128x2) zero2, View.ld_unit_zero (S := S1x2) zero2]
  rw [show Scf.trips 0#32 (Scalar.addi 0#32 8#32) 1#32 = k0_t1_loop.trips from rfl,
    show Scf.trips 0#32 (Scalar.addi 0#32 12#32) 1#32 = k0_t2_loop.trips from rfl,
    show View.ld x2 (Rect.unit ![0, 0] ![1, 64] inb_S2x64_S1x64_0_0) = wrow x2 0 from w_read x2 0 _,
    show View.ld x2 (Rect.unit ![1, 0] ![1, 64] inb_S2x64_S1x64_1_0) = wrow x2 1 from w_read x2 1 _,
    given_eq c arg0 harg0 arg1 harg1 arg2 harg2 arg3 harg3 arg4 harg4 arg5 harg5 arg6 harg6 arg7 harg7 arg8 harg8 arg9
        harg9 arg10 harg10 arg11 harg11 arg12 harg12 (wrow x2 0) (wrow x2 1) x3 x4 x5 x6 x7 x8 x9 x0 x1 (par x2 x3 x4
        x5 x6 x7 x8 x9 x10 x11) rfl rfl (h2 := (shapeCast_self _ _).symm) (h4 := (shapeCast_self _ _).symm)
      (h6 := (shapeCast_self _ _).symm) (h8 := (shapeCast_self _ _).symm) (h10 := (shapeCast_self _ _).symm)
      (h12 := (shapeCast_self _ _).symm) (h14 := (shapeCast_self _ _).symm) (k := k0_t1_loop.trips) le_rfl,
    show k0_pay877 (View.ld x1 (Rect.unit ![7, 0, 0] ![1, 512, 2] inb_S8x512x2_S1x512x2_7_0_0)) = row x1 7 from
      row_read x1 _ 7 (by decide) rfl _ _]
  refine (guess_eq c arg0 harg0 arg1 harg1 arg2 harg2 arg3 harg3 arg4 harg4 arg5 harg5 arg6 harg6 arg7 harg7 arg8
      harg8 arg9 harg9 arg10 harg10 arg11 harg11 arg12 harg12 _ _ _ _ _ _ _ _ _ _ _ _ (par x2 x3 x4 x5 x6 x7 x8 x9 x10
      x11) ?_ _ le_rfl).2
  unfold par k0_pay864 k0_pay865 k0_pay866 k0_pay867 k0_pay868 k0_pay869 k0_pay870 k0_pay871
  simp only [shapeCast_self]

end loops

end Cert.KernelIdeal.Step

end
-- ==== Proof.KernelFinal.lean ====
/-
  What the kernel's run leaves: its result array holds the predictions, at the weights the host lays out for it.
-/
module

public import proofs.«01_k».proof.Proof.KernelRun
public import Idealize.ShloMosaic.Lib.StableHlo.RunRead

@[expose] public section

noncomputable section

namespace Cert.KernelIdeal.Step

open Cert.KernelIdeal Cert.KernelIdeal.Gen Idealize.ShloMosaic Idealize.ShloMosaic.TcCoe Idealize.ShloMosaic.Tactic

variable {F : FTy → Type} [FloatOps F]
variable (m : (ℓ : Loc nD τ sig) → Buf (Elt F) ℓ) (ρ : Dev nD → PrngReg)

/-- The weights as the launch finds them. -/
def parOf (c : Dev nD) : Par F :=
  par (V m c main_arg3) (V m c main_call0_v9) (V m c main_call0_v2) (V m c main_call0_v10) (V m c main_call0_v4)
    (V m c main_call0_v5) (V m c main_call0_v6) (V m c main_call0_v8) (V m c main_arg15) (V m c main_call0_v11)

/-- The predictions from the arguments as launched. -/
def result (c : Dev nD) : Buf (Elt F) ((c : Thread nD τ).loc main_v0) :=
  rows (parOf m c) (start (parOf m c) (V m c main_arg0) (V m c main_arg2))

/-- Each window's block is its array. -/
theorem blocks (c : Dev nD) :
    iblk m c 0 t0_0 = V m c main_arg0 ∧ iblk m c 1 t0_0 = V m c main_arg2 ∧ iblk m c 2 t0_0 = V m c main_arg3
    ∧ iblk m c 3 t0_0 = V m c main_call0_v9 ∧ iblk m c 4 t0_0 = V m c main_call0_v2
    ∧ iblk m c 5 t0_0 = V m c main_call0_v10 ∧ iblk m c 6 t0_0 = V m c main_call0_v4
    ∧ iblk m c 7 t0_0 = V m c main_call0_v5 ∧ iblk m c 8 t0_0 = V m c main_call0_v6
    ∧ iblk m c 9 t0_0 = V m c main_call0_v8 ∧ iblk m c 10 t0_0 = V m c main_arg15
    ∧ iblk m c 11 t0_0 = V m c main_call0_v11 := by
  refine ⟨?_, ?_, ?_, ?_, ?_, ?_, ?_, ?_, ?_, ?_, ?_, ?_⟩ <;>
    exact Memref.read_access_unit_zero (Elt F) _ (funext fun a => by fin_cases a <;> decide) _ _

/-- The one write-back is of the predictions. -/
theorem flushed_eq (c : Dev nD) (t : Fin cfg0.N) (hf : (cfg0.win 12).flush t = true) :
    (dats m 0 c).flushed 12 t = ((cfg0.win 12).blk t).view.read (Elt F) (result m c) := by
  obtain rfl : t = t0_0 := fin_N0 t
  rw [Value.flushed12_A, out_eq]
  obtain ⟨h0, h1, h2, h3, h4, h5, h6, h7, h8, h9, h10, h11⟩ := blocks m c
  rw [h0, h1, h2, h3, h4, h5, h6, h7, h8, h9, h10, h11]
  exact (Memref.read_access_unit_zero (Elt F) main_v0 (funext fun a => by fin_cases a <;> decide) _ (result m c)).symm

/-- So the result array ends holding them: the block written back is all of it. -/
theorem final (c : Dev nD) : (dats m 0 c).arrAt 12 cfg0.N = result m c :=
  (dats m 0 c).arrAt_eq_of_cover 12 (result m c) (flushed_eq m c) fun i =>
    ⟨t0_0, flush0_12 t0_0, by
      show i ∈ ((View.whole main_v0).slice (win0_12.rect t0_0)).set
      rw [View.set_slice_whole]
      exact View.mem_set_unit_zero (funext fun a => by fin_cases a <;> rfl) _ i⟩

/-- The gates' weights side by side. -/
def gates (wi wf wo wg : FVec F S256x128 .f32) : FVec F S256x512 .f32 :=
  concatenate S256x512 1 [⟨S256x128, wi⟩, ⟨S256x128, wf⟩, ⟨S256x128, wo⟩, ⟨S256x128, wg⟩]
    concatenates_S256x128_S256x128_S256x128_S256x128_S256x512_d1

/-- The gates' biases side by side. -/
def biases (bi bf bo bg : FVec F S128 .f32) : FVec F S512 .f32 :=
  concatenate S512 0 [⟨S128, bi⟩, ⟨S128, bf⟩, ⟨S128, bo⟩, ⟨S128, bg⟩] concatenates_S128_S128_S128_S128_S512_d0

/-- The weights as the host lays them out, from the arguments. -/
def lay (win : FVec F S2x64 .f32) (bin : FVec F S64 .f32) (wp : FVec F S8192x64 .f32) (bp : FVec F S64 .f32)
    (wi : FVec F S256x128 .f32) (bi : FVec F S128 .f32) (wf : FVec F S256x128 .f32) (bf : FVec F S128 .f32)
    (wo : FVec F S256x128 .f32) (bo : FVec F S128 .f32) (wg : FVec F S256x128 .f32) (bg : FVec F S128 .f32)
    (wout : FVec F S128x2 .f32) (bout : FVec F S2 .f32) : Par F :=
  par win (shapeCast S1x64 bin shapeCasts_S64_S1x64)
    (shapeCast S128x4096 (transpose S128x64x64 [1, 0, 2] (shapeCast S64x128x64 wp shapeCasts_S8192x64_S64x128x64)
      transposes_S64x128x64_S128x64x64_1_0_2) shapeCasts_S128x64x64_S128x4096)
    (shapeCast S1x64 bp shapeCasts_S64_S1x64)
    (extractStridedSlice S64x512 ![0, 0] (gates wi wf wo wg) slices_S256x512_S64x512_0_0)
    (extractStridedSlice S128x512 ![64, 0] (gates wi wf wo wg) slices_S256x512_S128x512_64_0)
    (extractStridedSlice S64x512 ![192, 0] (gates wi wf wo wg) slices_S256x512_S64x512_192_0)
    (shapeCast S1x512 (biases bi bf bo bg) shapeCasts_S512_S1x512) wout (shapeCast S1x2 bout shapeCasts_S2_S1x2)

/-- What the launch finds in the laid-out buffers, one at a time. -/
theorem entry_pool (c : Dev nD) : V m c main_call0_v2
    = shapeCast S128x4096 (transpose S128x64x64 [1, 0, 2] (shapeCast S64x128x64
        (m ((c : Thread nD τ).loc main_arg5) : FVec F S8192x64 .f32) shapeCasts_S8192x64_S64x128x64)
        transposes_S64x128x64_S128x64x64_1_0_2) shapeCasts_S128x64x64_S128x4096 := by
  after_reads_simp
  rfl

theorem entry_x (c : Dev nD) : V m c main_call0_v4
    = extractStridedSlice S64x512 ![0, 0] (gates (m ((c : Thread nD τ).loc main_arg7)) (m ((c : Thread nD τ).loc main_arg9))
        (m ((c : Thread nD τ).loc main_arg11)) (m ((c : Thread nD τ).loc main_arg13))) slices_S256x512_S64x512_0_0 := by
  after_reads_simp
  rfl

theorem entry_h (c : Dev nD) : V m c main_call0_v5
    = extractStridedSlice S128x512 ![64, 0] (gates (m ((c : Thread nD τ).loc main_arg7)) (m ((c : Thread nD τ).loc main_arg9))
        (m ((c : Thread nD τ).loc main_arg11)) (m ((c : Thread nD τ).loc main_arg13))) slices_S256x512_S128x512_64_0 := by
  after_reads_simp
  rfl

theorem entry_s (c : Dev nD) : V m c main_call0_v6
    = extractStridedSlice S64x512 ![192, 0] (gates (m ((c : Thread nD τ).loc main_arg7)) (m ((c : Thread nD τ).loc main_arg9))
        (m ((c : Thread nD τ).loc main_arg11)) (m ((c : Thread nD τ).loc main_arg13))) slices_S256x512_S64x512_192_0 := by
  after_reads_simp
  rfl

theorem entry_biases (c : Dev nD) : V m c main_call0_v8
    = shapeCast S1x512 (biases (m ((c : Thread nD τ).loc main_arg8)) (m ((c : Thread nD τ).loc main_arg10))
        (m ((c : Thread nD τ).loc main_arg12)) (m ((c : Thread nD τ).loc main_arg14))) shapeCasts_S512_S1x512 := by
  after_reads_simp
  rfl

theorem entry_in (c : Dev nD) : V m c main_call0_v9
    = shapeCast S1x64 (m ((c : Thread nD τ).loc main_arg4) : FVec F S64 .f32) shapeCasts_S64_S1x64 := by
  after_reads_simp
  rfl

theorem entry_bp (c : Dev nD) : V m c main_call0_v10
    = shapeCast S1x64 (m ((c : Thread nD τ).loc main_arg6) : FVec F S64 .f32) shapeCasts_S64_S1x64 := by
  after_reads_simp
  rfl

theorem entry_out (c : Dev nD) : V m c main_call0_v11
    = shapeCast S1x2 (m ((c : Thread nD τ).loc main_arg16) : FVec F S2 .f32) shapeCasts_S2_S1x2 := by
  after_reads_simp
  rfl

/-- The launch finds the weights laid out from the arguments. -/
theorem parOf_eq (c : Dev nD) : parOf m c = lay (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16)) := by
  unfold parOf lay
  rw [entry_pool, entry_x, entry_h, entry_s, entry_biases, entry_in, entry_bp, entry_out, V_main_arg3, V_main_arg15]

/-- The predictions, from the arguments as launched. -/
theorem result_eq (c : Dev nD) : result m c
    = rows (parOf m c) (start (parOf m c) (m ((c : Thread nD τ).loc main_arg0)) (m ((c : Thread nD τ).loc main_arg2))) := by
  unfold result
  rw [V_main_arg0, V_main_arg2]

end Cert.KernelIdeal.Step

end
-- ==== Proof.RefStep.lean ====
/-
  One step of the reference as a function of its words, and one trip of its loop shown to be that step at the velocity
  and the position the trip picks: the given ones for eight trips, the predicted ones after that.
-/
module

public import proofs.«01_k».proof.Proof.Gen.ReferenceIdeal.Run

@[expose] public section

noncomputable section

namespace Cert.ReferenceIdeal.Fold

open Cert.ReferenceIdeal Cert.ReferenceIdeal.Gen Cert.ReferenceIdeal.Value Idealize.ShloMosaic Idealize.ShloMosaic.TcCoe

variable {F : FTy → Type} [FloatOps F]

/-- The model's weights. -/
structure Wts (F : FTy → Type) [FloatOps F] where
  win : FVec F S2x64 .f32
  bin : FVec F S64 .f32
  wp : FVec F S8192x64 .f32
  bp : FVec F S64 .f32
  wi : FVec F S256x128 .f32
  bi : FVec F S128 .f32
  wf : FVec F S256x128 .f32
  bf : FVec F S128 .f32
  wo : FVec F S256x128 .f32
  bo : FVec F S128 .f32
  wg : FVec F S256x128 .f32
  bg : FVec F S128 .f32
  wout : FVec F S128x2 .f32
  bout : FVec F S2 .f32

/-- The predicted velocity. -/
def predict (w : FVec F S128x2 .f32) (b : FVec F S2 .f32) (h : FVec F S512x128 .f32) : FVec F S512x2 .f32 :=
  addf (Host.dotGeneral dot_S512x128_S128x2_S512x2_1_0_0_1_n_n none h w)
    (broadcastInDim S512x2 ![0, 1] bcast_S1x2_S512x2_0_1 (broadcastInDim S1x2 ![1] bcast_S2_S1x2_1 b))

/-- The embedding of a velocity. -/
def emb (w : FVec F S2x64 .f32) (b : FVec F S64 .f32) (vel : FVec F S512x2 .f32) : FVec F S512x64 .f32 :=
  addf (Host.dotGeneral dot_S512x2_S2x64_S512x64_1_0_0_1_n_n none vel w)
    (broadcastInDim S512x64 ![0, 1] bcast_S1x64_S512x64_0_1 (broadcastInDim S1x64 ![1] bcast_S64_S1x64_1 b))

/-- The grid numbers of every agent as seen from every agent of its batch, in both coordinates. -/
def grids (pos : FVec F S512x2 .f32) : IVec S8x64x64x2 32 :=
  fptosi 32 (addf (minimumf (broadcastInDim S8x64x64x2 ![] bcast_S_S8x64x64x2 (sitofp .f32 (constantI S_ 32 4#32)))
    (maximumf (broadcastInDim S8x64x64x2 ![] bcast_S_S8x64x64x2 (sitofp .f32 (constantI S_ 32 4294967292#32)))
      (Host.divf (subf
          (broadcastInDim S8x64x64x2 ![0, 1, 2, 3] bcast_S8x1x64x2_S8x64x64x2_0_1_2_3
            (broadcastInDim S8x1x64x2 ![0, 2, 3] bcast_S8x64x2_S8x1x64x2_0_2_3 (shapeCast S8x64x2 pos shapeCasts_S512x2_S8x64x2)))
          (broadcastInDim S8x64x64x2 ![0, 1, 2, 3] bcast_S8x64x1x2_S8x64x64x2_0_1_2_3
            (broadcastInDim S8x64x1x2 ![0, 1, 3] bcast_S8x64x2_S8x64x1x2_0_1_3 (shapeCast S8x64x2 pos shapeCasts_S512x2_S8x64x2))))
        (broadcastInDim S8x64x64x2 ![] bcast_S_S8x64x64x2 (constant S_ .f32 0x3E924925#32)))))
    (broadcastInDim S8x64x64x2 ![] bcast_S_S8x64x64x2 (constant S_ .f32 0x40800000#32)))

/-- The first coordinate's numbers. -/
def gx (pos : FVec F S512x2 .f32) : IVec S8x64x64 32 :=
  shapeCast S8x64x64 (extractStridedSlice S8x64x64x1 ![0, 0, 0, 0] (grids pos) slices_S8x64x64x2_S8x64x64x1_0_0_0_0)
    shapeCasts_S8x64x64x1_S8x64x64

/-- The second coordinate's numbers. -/
def gy (pos : FVec F S512x2 .f32) : IVec S8x64x64 32 :=
  shapeCast S8x64x64 (extractStridedSlice S8x64x64x1 ![0, 0, 0, 1] (grids pos) slices_S8x64x64x2_S8x64x64x1_0_0_0_1)
    shapeCasts_S8x64x64x1_S8x64x64

/-- Whether an agent is another one and lies in some cell. -/
def valid (pos : FVec F S512x2 .f32) : IVec S8x64x64 1 :=
  andi (andi (andi (andi
      (cmpi .sge (gx pos) (broadcastInDim S8x64x64 ![] bcast_S_S8x64x64 (constantI S_ 32 0#32)))
      (cmpi .slt (gx pos) (broadcastInDim S8x64x64 ![] bcast_S_S8x64x64 (constantI S_ 32 8#32))))
      (cmpi .sge (gy pos) (broadcastInDim S8x64x64 ![] bcast_S_S8x64x64 (constantI S_ 32 0#32))))
      (cmpi .slt (gy pos) (broadcastInDim S8x64x64 ![] bcast_S_S8x64x64 (constantI S_ 32 8#32))))
    (broadcastInDim S8x64x64 ![0, 1, 2] bcast_S1x64x64_S8x64x64_0_1_2 (broadcastInDim S1x64x64 ![1, 2] bcast_S64x64_S1x64x64_1_2
      (noti (cmpi .eq (addi (iotaInDim S64x64 32 0) (broadcastInDim S64x64 ![] bcast_S_S64x64 (constantI S_ 32 0#32)))
        (iotaInDim S64x64 32 1)))))

/-- One where the agent lies in the cell. -/
def hot (pos : FVec F S512x2 .f32) : FVec F S8x64x64x64 .f32 :=
  mulf (uitofp .f32 (cmpi .eq
      (broadcastInDim S8x64x64x64 ![0, 1, 2, 3] bcast_S8x64x64x1_S8x64x64x64_0_1_2_3
        (broadcastInDim S8x64x64x1 ![0, 1, 2] bcast_S8x64x64_S8x64x64x1_0_1_2
          (addi (muli (gy pos) (broadcastInDim S8x64x64 ![] bcast_S_S8x64x64 (constantI S_ 32 8#32))) (gx pos))))
      (broadcastInDim S8x64x64x64 ![0, 1, 2, 3] bcast_S1x1x1x64_S8x64x64x64_0_1_2_3 (iotaInDim S1x1x1x64 32 3))))
    (broadcastInDim S8x64x64x64 ![0, 1, 2, 3] bcast_S8x64x64x1_S8x64x64x64_0_1_2_3
      (uitofp .f32 (broadcastInDim S8x64x64x1 ![0, 1, 2] bcast_S8x64x64_S8x64x64x1_0_1_2 (valid pos))))

/-- The hidden states summed into the cells. -/
def pooled (pos : FVec F S512x2 .f32) (h : FVec F S512x128 .f32) : FVec F S512x8192 .f32 :=
  shapeCast S512x8192 (Host.dotGeneral dot_S8x64x64x64_S8x64x128_S8x64x64x128_2_1_13_2_0_0 none (hot pos)
    (shapeCast S8x64x128 h shapeCasts_S512x128_S8x64x128)) shapeCasts_S8x64x64x128_S512x8192

/-- The pooled neighbours' part of a step's input. -/
def social (wp : FVec F S8192x64 .f32) (bp : FVec F S64 .f32) (pos : FVec F S512x2 .f32) (h : FVec F S512x128 .f32) :
    FVec F S512x64 .f32 :=
  maximumf (addf (Host.dotGeneral dot_S512x8192_S8192x64_S512x64_1_0_0_1_n_n none (pooled pos h) wp)
      (broadcastInDim S512x64 ![0, 1] bcast_S1x64_S512x64_0_1 (broadcastInDim S1x64 ![1] bcast_S64_S1x64_1 bp)))
    (broadcastInDim S512x64 ![] bcast_S_S512x64 (constant S_ .f32 0x00000000#32))

/-- A step's input: embedded velocity, hidden state, pooled neighbours. -/
def comb (e : FVec F S512x64 .f32) (h : FVec F S512x128 .f32) (s : FVec F S512x64 .f32) : FVec F S512x256 .f32 :=
  concatenate S512x256 1 [⟨S512x64, e⟩, ⟨S512x128, h⟩, ⟨S512x64, s⟩] concatenates_S512x64_S512x128_S512x64_S512x256_d1

/-- A gate's preactivation. -/
def lin (w : FVec F S256x128 .f32) (b : FVec F S128 .f32) (x : FVec F S512x256 .f32) : FVec F S512x128 .f32 :=
  addf (Host.dotGeneral dot_S512x256_S256x128_S512x128_1_0_0_1_n_n none x w)
    (broadcastInDim S512x128 ![0, 1] bcast_S1x128_S512x128_0_1 (broadcastInDim S1x128 ![1] bcast_S128_S1x128_1 b))

/-- The logistic function, as the host spells it. -/
def sigm (x : FVec F S512x128 .f32) : FVec F S512x128 .f32 :=
  Host.divf (broadcastInDim S512x128 ![] bcast_S_S512x128 (constant S_ .f32 0x3F800000#32))
    (addf (broadcastInDim S512x128 ![] bcast_S_S512x128 (constant S_ .f32 0x3F800000#32)) (Host.exp (Host.negf x)))

/-- A step's input at velocity `vel` and position `pos`. -/
def input (P : Wts F) (vel pos : FVec F S512x2 .f32) (h : FVec F S512x128 .f32) : FVec F S512x256 .f32 :=
  comb (emb P.win P.bin vel) h (social P.wp P.bp pos h)

/-- The new cell state from the input. -/
def cell' (P : Wts F) (x : FVec F S512x256 .f32) (c : FVec F S512x128 .f32) : FVec F S512x128 .f32 :=
  addf (mulf (sigm (lin P.wf P.bf x)) c) (mulf (sigm (lin P.wi P.bi x)) (Host.tanh (lin P.wg P.bg x)))

/-- The new hidden state from the input. -/
def hid' (P : Wts F) (x : FVec F S512x256 .f32) (c : FVec F S512x128 .f32) : FVec F S512x128 .f32 :=
  mulf (sigm (lin P.wo P.bo x)) (Host.tanh (cell' P x c))

/-- A step at velocity `vel` and position `pos`. -/
def adv (P : Wts F) (vel pos : FVec F S512x2 .f32) (s : FVec F S512x128 .f32 × FVec F S512x128 .f32) :
    FVec F S512x128 .f32 × FVec F S512x128 .f32 :=
  (hid' P (input P vel pos s.1) s.2, cell' P (input P vel pos s.1) s.2)

/-- The weights among the loop's buffers. -/
def wts (V : Valuation τ sig (Elt F)) : Wts F where
  win := V (Proc.devRef .tc main_v8_5)
  bin := V (Proc.devRef .tc main_v8_6)
  wp := V (Proc.devRef .tc main_v8_7)
  bp := V (Proc.devRef .tc main_v8_8)
  wi := V (Proc.devRef .tc main_v8_9)
  bi := V (Proc.devRef .tc main_v8_10)
  wf := V (Proc.devRef .tc main_v8_11)
  bf := V (Proc.devRef .tc main_v8_12)
  wo := V (Proc.devRef .tc main_v8_13)
  bo := V (Proc.devRef .tc main_v8_14)
  wg := V (Proc.devRef .tc main_v8_15)
  bg := V (Proc.devRef .tc main_v8_16)
  wout := V (Proc.devRef .tc main_v8_3)
  bout := V (Proc.devRef .tc main_v8_4)

/-- Row `k` of the twenty. -/
def slab (x : FVec F S20x512x2 .f32) (k : IVec S_ 32) : FVec F S512x2 .f32 :=
  shapeCast S512x2 (Host.dynamicSlice S1x512x2 x (fun a => (((![k, constantI S_ 32 0#32, constantI S_ 32 0#32] :
    Fin 3 → IVec S_ 32)) a (Shape.Idx.first h_S_)).toInt) sliceFits_S20x512x2_S1x512x2) shapeCasts_S1x512x2_S512x2

/-- Whether a trip is one of the first eight. -/
def early (t : IVec S20 32) (k : IVec S_ 32) : IVec S512x2 1 :=
  broadcastInDim S512x2 ![] bcast_S_S512x2 (cmpi .slt (shapeCast S_ (Host.dynamicSlice S1 t (fun a => (((![k] :
    Fin 1 → IVec S_ 32)) a (Shape.Idx.first h_S_)).toInt) sliceFits_S20_S1) shapeCasts_S1_S_) (constantI S_ 32 8#32))

/-- What a trip picks: the given row early on, the other value later. -/
def pick (t : IVec S20 32) (k : IVec S_ 32) (x : FVec F S20x512x2 .f32) (y : FVec F S512x2 .f32) : FVec F S512x2 .f32 :=
  select (early t k) (slab x k) y

section trip

variable (V : Valuation τ sig (Elt F))

/-- The velocity a trip predicts. -/
def velP : FVec F S512x2 .f32 := predict (wts V).wout (wts V).bout (V (Proc.devRef .tc main_v8_18))

/-- The velocity a trip steps at. -/
def velT : FVec F S512x2 .f32 :=
  pick (V (Proc.devRef .tc main_v8_0)) (V (Proc.devRef .tc main_v8_17)) (V (Proc.devRef .tc main_v8_1)) (velP V)

/-- The position a trip steps at. -/
def posT : FVec F S512x2 .f32 :=
  pick (V (Proc.devRef .tc main_v8_0)) (V (Proc.devRef .tc main_v8_17)) (V (Proc.devRef .tc main_v8_2))
    (addf (V (Proc.devRef .tc main_v8_20) : FVec F S512x2 .f32) (velP V))

/-- The state a trip leads to. -/
def advT : FVec F S512x128 .f32 × FVec F S512x128 .f32 :=
  adv (wts V) (velT V) (posT V) (V (Proc.devRef .tc main_v8_18), V (Proc.devRef .tc main_v8_19))

theorem step18 : STEP V (Proc.devRef .tc main_v8_18) = (advT V).1 := by
  rw [STEP_main_v8_18]; rfl

theorem step19 : STEP V (Proc.devRef .tc main_v8_19) = (advT V).2 := by
  rw [STEP_main_v8_19]; rfl

theorem step20 : STEP V (Proc.devRef .tc main_v8_20) = posT V := by
  rw [STEP_main_v8_20]; rfl

theorem step17 : STEP V (Proc.devRef .tc main_v8_17)
    = addi (V (Proc.devRef .tc main_v8_17) : IVec S_ 32) (constantI S_ 32 1#32) := by
  rw [STEP_main_v8_17]; rfl

theorem step21 : STEP V (Proc.devRef .tc main_v8_21)
    = Host.dynamicUpdateSlice (V (Proc.devRef .tc main_v8_21) : FVec F S20x512x2 .f32)
        (broadcastInDim S1x512x2 ![1, 2] bcast_S512x2_S1x512x2_1_2 (velP V))
        (fun k => (((![V (Proc.devRef .tc main_v8_17), constantI S_ 32 0#32, constantI S_ 32 0#32] :
          Fin 3 → IVec S_ 32)) k (Shape.Idx.first h_S_)).toInt) updateFits_S20x512x2_S1x512x2 := by
  rw [STEP_main_v8_21]; rfl

theorem step_wts : wts (STEP V) = wts V := by
  unfold wts
  rw [STEP_main_v8_3, STEP_main_v8_4, STEP_main_v8_5, STEP_main_v8_6, STEP_main_v8_7, STEP_main_v8_8, STEP_main_v8_9,
    STEP_main_v8_10, STEP_main_v8_11, STEP_main_v8_12, STEP_main_v8_13, STEP_main_v8_14, STEP_main_v8_15, STEP_main_v8_16]

end trip

end Cert.ReferenceIdeal.Fold

end
-- ==== Proof.RefRun.lean ====
/-
  The reference's run as one sequence of states: eight steps at the given velocities and positions, then steps at the
  predicted ones; and its output, row by row, as the predictions along the later part.
-/
module

public import proofs.«01_k».proof.Proof.RefStep
public import Idealize.ShloMosaic.Lib.StableHlo.RunRead
public import Idealize.ShloMosaic.Lib.DynamicIndex
public import Idealize.ShloMosaic.Lib.WordCmp
public import Idealize.ShloMosaic.Lib.PointwiseCore

@[expose] public section

noncomputable section

namespace Cert.ReferenceIdeal.Fold

open Cert.ReferenceIdeal Cert.ReferenceIdeal.Gen Cert.ReferenceIdeal.Value Idealize.ShloMosaic Idealize.ShloMosaic.TcCoe
open Idealize.ShloMosaic.StableHlo

variable {F : FTy → Type} [FloatOps F]

/-- Row `k` of the given eight. -/
def row (x : FVec F S8x512x2 .f32) (k : ℕ) : FVec F S512x2 .f32 :=
  fun j => x (ix3 ⟨k % 8, Nat.mod_lt _ (by decide)⟩ (j 0) (j 1))

/-- The given rows with rows of zeros after them. -/
def pad (x : FVec F S8x512x2 .f32) : FVec F S20x512x2 .f32 :=
  concatenate S20x512x2 0 [⟨S8x512x2, x⟩, ⟨S12x512x2, broadcastInDim S12x512x2 ![] bcast_S_S12x512x2
    (constant S_ .f32 0x00000000#32)⟩] concatenates_S8x512x2_S12x512x2_S20x512x2_d0

/-- The zero state. -/
def zeros : FVec F S512x128 .f32 := broadcastInDim S512x128 ![] bcast_S_S512x128 (constant S_ .f32 0x00000000#32)

/-- The states, with the position, along the trips. -/
def walk (P : Wts F) (xv xp : FVec F S8x512x2 .f32) : ℕ → FVec F S512x128 .f32 × FVec F S512x128 .f32 × FVec F S512x2 .f32
  | 0 => (zeros, zeros, row xp 7)
  | k + 1 =>
    let s := walk P xv xp k
    let v := predict P.wout P.bout s.1
    let vel := if k < 8 then row xv k else v
    let pos := if k < 8 then row xp k else addf s.2.2 v
    let n := adv P vel pos (s.1, s.2.1)
    (n.1, n.2, pos)

/-- The predicted velocities, row by row. -/
def preds (P : Wts F) (xv xp : FVec F S8x512x2 .f32) : FVec F S12x512x2 .f32 :=
  fun y => predict P.wout P.bout (walk P xv xp (8 + (y 0).val)).1 (ix2 (n0 := 512) (n1 := 2) (y 1) (y 2))

/-- A trip's number as the loop counts it. -/
def num (k : ℕ) : IVec S_ 32 := fun _ => BitVec.ofNat 32 k

theorem fits_row (k : ℕ) (hk : k < 20) : S20x512x2.Slices ![k, 0, 0] S1x512x2 :=
  ⟨rfl, fun a => by
    match a with
    | ⟨0, _⟩ => exact hk
    | ⟨1, _⟩ => exact le_refl 512
    | ⟨2, _⟩ => exact le_refl 2⟩

theorem fits_num (k : ℕ) (hk : k < 20) : S20.Slices ![k] S1 :=
  ⟨rfl, fun a => by
    match a with
    | ⟨0, _⟩ => exact hk⟩

theorem starts (k : ℕ) (hk : k < 20) (a : Fin 3) :
    (((![num k, constantI S_ 32 0#32, constantI S_ 32 0#32] : Fin 3 → IVec S_ 32)) a (Shape.Idx.first h_S_)).toInt
      = ((![k, 0, 0] : Fin 3 → ℕ) a : Int) := by
  match a with
  | ⟨0, _⟩ => exact toInt_ofNat_of_lt (by omega)
  | ⟨1, _⟩ => rfl
  | ⟨2, _⟩ => rfl

/-- Whether trip `k` is early, as the trip finds it. -/
theorem early_eq (k : ℕ) (hk : k < 20) (j : S512x2.Idx) :
    early (iotaInDim S20 32 0) (num k) j = if k < 8 then 1#1 else 0#1 := by
  unfold early
  rw [Host.dynamicSlice_eq_extractStridedSlice S1 _ _ ![k] _ (fits_num k hk) (fun a => by
    match a with
    | ⟨0, _⟩ => exact toInt_ofNat_of_lt (by omega))]
  have key : ∀ q : S1.Idx, IntOp.cmpi .slt (BitVec.ofNat 32 (k + (q 0).val)) 8#32 = if k < 8 then 1#1 else 0#1 := fun q => by
    have hq : (q 0).val < 1 := (q 0).isLt
    obtain hq : (q 0).val = 0 := by omega
    rw [hq]
    revert hk
    revert k
    decide
  exact key _

/-- Row `k` of the padded rows. -/
theorem slab_eq (x : FVec F S8x512x2 .f32) (k : ℕ) (hk : k < 8) : slab (pad x) (num k) = row x k := by
  unfold slab
  rw [Host.dynamicSlice_eq_extractStridedSlice S1x512x2 _ _ ![k, 0, 0] _ (fits_row k (by omega)) (starts k (by omega))]
  funext j
  rw [shapeCast_dropUnit_apply (d := ![512, 2])]
  unfold pad
  show concatenate S20x512x2 0 _ _ _ = _
  refine (concatenate_pair_apply_left (t := S20x512x2) 0 x _ _ _ rfl (ix3 ⟨k, hk⟩ (j 0) (j 1)) fun b => ?_).trans ?_
  · match b with
    | ⟨0, _⟩ => rfl
    | ⟨1, _⟩ => exact (Nat.zero_add _).symm
    | ⟨2, _⟩ => exact (Nat.zero_add _).symm
  · unfold row
    congr 2
    exact Fin.ext (Nat.mod_eq_of_lt hk).symm

/-- What trip `k` picks. -/
theorem pick_eq (x : FVec F S8x512x2 .f32) (y : FVec F S512x2 .f32) (k : ℕ) (hk : k < 20) :
    pick (iotaInDim S20 32 0) (num k) (pad x) y = if k < 8 then row x k else y := by
  unfold pick
  funext j
  show (if early (iotaInDim S20 32 0) (num k) j = 1 then slab (pad x) (num k) j else y j) = _
  rw [early_eq k hk]
  by_cases h : k < 8
  · rw [if_pos h, if_pos h, slab_eq x k h]
    exact if_pos rfl
  · rw [if_neg h, if_neg h]
    exact if_neg (by decide)

section fold

variable (m : (ℓ : Loc nD τ sig) → Buf (Elt F) ℓ) (c : Dev nD)

/-- The loop's buffers before trip `k`. -/
def at' (k : ℕ) : Valuation τ sig (Elt F) := STEP^[k] (entryContents preI m c)

theorem at_succ (k : ℕ) : at' m c (k + 1) = STEP (at' m c k) := Function.iterate_succ_apply' _ _ _

/-- The weights as the arguments hold them. -/
def wtsOf : Wts F where
  win := m ((c.tc : Thread nD τ).loc main_arg3)
  bin := m ((c.tc : Thread nD τ).loc main_arg4)
  wp := m ((c.tc : Thread nD τ).loc main_arg5)
  bp := m ((c.tc : Thread nD τ).loc main_arg6)
  wi := m ((c.tc : Thread nD τ).loc main_arg7)
  bi := m ((c.tc : Thread nD τ).loc main_arg8)
  wf := m ((c.tc : Thread nD τ).loc main_arg9)
  bf := m ((c.tc : Thread nD τ).loc main_arg10)
  wo := m ((c.tc : Thread nD τ).loc main_arg11)
  bo := m ((c.tc : Thread nD τ).loc main_arg12)
  wg := m ((c.tc : Thread nD τ).loc main_arg13)
  bg := m ((c.tc : Thread nD τ).loc main_arg14)
  wout := m ((c.tc : Thread nD τ).loc main_arg15)
  bout := m ((c.tc : Thread nD τ).loc main_arg16)

/-- The given velocities. -/
def vels : FVec F S8x512x2 .f32 := m ((c.tc : Thread nD τ).loc main_arg0)

/-- The given positions. -/
def poss : FVec F S8x512x2 .f32 := m ((c.tc : Thread nD τ).loc main_arg2)

set_option maxRecDepth 4000 in
theorem entry_wts : wts (entryContents preI m c) = wtsOf m c := by
  unfold wts wtsOf
  simp only [entryContents, afterL_cons, afterL_nil]
  congr 1 <;> (after_reads_simp; rfl)

theorem entry_0 : entryContents preI m c (Proc.devRef .tc main_v8_0) = iotaInDim S20 32 0 := by
  simp only [entryContents, afterL_cons, afterL_nil]
  after_reads_simp
  rfl

theorem entry_1 : entryContents preI m c (Proc.devRef .tc main_v8_1) = pad (vels m c) := by
  simp only [entryContents, afterL_cons, afterL_nil]
  after_reads_simp
  rfl

theorem entry_2 : entryContents preI m c (Proc.devRef .tc main_v8_2) = pad (poss m c) := by
  simp only [entryContents, afterL_cons, afterL_nil]
  after_reads_simp
  rfl

theorem entry_18 : entryContents preI m c (Proc.devRef .tc main_v8_18) = (zeros : FVec F S512x128 .f32) := by
  simp only [entryContents, afterL_cons, afterL_nil]
  after_reads_simp
  rfl

theorem entry_19 : entryContents preI m c (Proc.devRef .tc main_v8_19) = (zeros : FVec F S512x128 .f32) := by
  simp only [entryContents, afterL_cons, afterL_nil]
  after_reads_simp
  rfl

theorem last_row (x : FVec F S8x512x2 .f32) :
    shapeCast S512x2 (extractStridedSlice S1x512x2 ![7, 0, 0] x slices_S8x512x2_S1x512x2_7_0_0) shapeCasts_S1x512x2_S512x2
      = row x 7 := by
  funext j
  rw [shapeCast_dropUnit_apply (d := ![512, 2])]
  refine congrArg x (funext fun a => Fin.ext ?_)
  match a with
  | ⟨0, _⟩ => rfl
  | ⟨1, _⟩ => exact Nat.zero_add _
  | ⟨2, _⟩ => exact Nat.zero_add _

theorem entry_20 : entryContents preI m c (Proc.devRef .tc main_v8_20) = row (poss m c) 7 := by
  rw [← last_row]
  simp only [entryContents, afterL_cons, afterL_nil]
  after_reads_simp
  rfl

/-- The buffers no trip writes. -/
theorem at_fixed (k : ℕ) : wts (at' m c k) = wtsOf m c ∧ at' m c k (Proc.devRef .tc main_v8_0) = iotaInDim S20 32 0
    ∧ at' m c k (Proc.devRef .tc main_v8_1) = pad (vels m c) ∧ at' m c k (Proc.devRef .tc main_v8_2) = pad (poss m c) := by
  induction k with
  | zero => exact ⟨entry_wts m c, entry_0 m c, entry_1 m c, entry_2 m c⟩
  | succ k ih =>
    rw [at_succ, step_wts, STEP_main_v8_0, STEP_main_v8_1, STEP_main_v8_2]
    exact ih

/-- The counter. -/
theorem at_num (k : ℕ) : at' m c k (Proc.devRef .tc main_v8_17) = num k := by
  induction k with
  | zero => exact ctr_entry m c
  | succ k ih =>
    rw [at_succ, step17, ih]
    funext j
    show BitVec.ofNat 32 k + 1#32 = BitVec.ofNat 32 (k + 1)
    exact (BitVec.ofNat_add k 1).symm

/-- The states. -/
theorem at_walk (k : ℕ) (hk : k ≤ 20) : at' m c k (Proc.devRef .tc main_v8_18) = (walk (wtsOf m c) (vels m c) (poss m c) k).1
    ∧ at' m c k (Proc.devRef .tc main_v8_19) = (walk (wtsOf m c) (vels m c) (poss m c) k).2.1
    ∧ at' m c k (Proc.devRef .tc main_v8_20) = (walk (wtsOf m c) (vels m c) (poss m c) k).2.2 := by
  induction k with
  | zero => exact ⟨entry_18 m c, entry_19 m c, entry_20 m c⟩
  | succ k ih =>
    obtain ⟨h1, h2, h3⟩ := ih (by omega)
    obtain ⟨f1, f2, f3, f4⟩ := at_fixed m c k
    have hv : velP (at' m c k) = predict (wtsOf m c).wout (wtsOf m c).bout (walk (wtsOf m c) (vels m c) (poss m c) k).1 := by
      unfold velP
      rw [f1, h1]
    have hvel : velT (at' m c k) = if k < 8 then row (vels m c) k else velP (at' m c k) := by
      unfold velT
      rw [f2, f3, at_num]
      exact pick_eq _ _ k (by omega)
    have hpos : posT (at' m c k) = if k < 8 then row (poss m c) k else
        addf (walk (wtsOf m c) (vels m c) (poss m c) k).2.2 (velP (at' m c k)) := by
      unfold posT
      rw [f2, f4, at_num, h3]
      exact pick_eq _ _ k (by omega)
    rw [hv] at hpos hvel
    rw [at_succ, step18, step19, step20]
    unfold advT
    rw [f1, hvel, hpos, h1, h2]
    exact ⟨rfl, rfl, rfl⟩

/-- The rows written so far. -/
theorem at_rows (k : ℕ) (hk : k ≤ 20) (y : S20x512x2.Idx) (hy : (y 0).val < k) :
    (at' m c k (Proc.devRef .tc main_v8_21) : FVec F S20x512x2 .f32) y
      = predict (wtsOf m c).wout (wtsOf m c).bout (walk (wtsOf m c) (vels m c) (poss m c) (y 0).val).1
          (ix2 (n0 := 512) (n1 := 2) (y 1) (y 2)) := by
  induction k with
  | zero => exact absurd hy (by omega)
  | succ k ih =>
    have hs : ((![k, 0, 0] : Fin 3 → ℕ) 0) = k := rfl
    rw [at_succ, step21, at_num,
      WordCmp.dynamicUpdateSlice_eq_update _ _ _ _ ![k, 0, 0] (fits_row k (by omega)) (starts k (by omega))]
    have h1 : (y 1).val < 512 := (y 1).isLt
    have h2 : (y 2).val < 2 := (y 2).isLt
    unfold updateSlice
    by_cases h : (y 0).val = k
    · rw [dif_pos (fun a => by
        match a with
        | ⟨0, _⟩ => exact ⟨h.ge, by show (y 0).val < k + 1; omega⟩
        | ⟨1, _⟩ => exact ⟨Nat.zero_le _, by show (y 1).val < 0 + 512; omega⟩
        | ⟨2, _⟩ => exact ⟨Nat.zero_le _, by show (y 2).val < 0 + 2; omega⟩)]
      have hv : velP (at' m c k)
          = predict (wtsOf m c).wout (wtsOf m c).bout (walk (wtsOf m c) (vels m c) (poss m c) (y 0).val).1 := by
        unfold velP
        rw [(at_fixed m c k).1, (at_walk m c k (by omega)).1, h]
      rw [hv]
      refine congrArg (predict (F := F) _ _ _) (funext fun a => Fin.ext ?_)
      match a with
      | ⟨0, _⟩ => rfl
      | ⟨1, _⟩ => rfl
    · rw [dif_neg (fun hin => h (by
        have := hin 0
        have e : (![k, 0, 0] : Fin 3 → ℕ) 0 = k := rfl
        have e' : S1x512x2.size 0 = 1 := rfl
        rw [e] at this
        exact le_antisymm (Nat.lt_succ_iff.mp this.2) this.1))]
      exact ih (by omega) (by omega)

/-- The reference's result. -/
theorem out_eq : out_main_v9 (STEP^[20] (entryContents preI m c)) = preds (wtsOf m c) (vels m c) (poss m c) := by
  unfold out_main_v9
  funext y
  have h0 : (y 0).val < 12 := (y 0).isLt
  refine (at_rows m c 20 (le_refl _) _ (by show 8 + (y 0).val < 20; omega)).trans ?_
  unfold preds
  refine congrArg (predict (F := F) _ _ _) (funext fun a => Fin.ext ?_)
  match a with
  | ⟨0, _⟩ => exact Nat.zero_add _
  | ⟨1, _⟩ => exact Nat.zero_add _

end fold

end Cert.ReferenceIdeal.Fold

end
-- ==== Proof.Scalars.lean ====
/-
  Facts about extended reals the equality rests on: what squashes to a real number, which grid numbers there are, and
  the one exchange of sums that needs finite factors.
-/
module

public import Idealize.ShloMosaic.Lib.Pointwise
public import Idealize.ShloMosaic.Lib.Affine

@[expose] public section

noncomputable section

namespace Cert.Equal

open Idealize.ShloMosaic

/-- A real number among the extended ones. -/
def IsReal (x : EReal) : Prop := ∃ r : ℝ, x = (r : EReal)

theorem real_zero : IsReal 0 := ⟨0, rfl⟩

theorem real_mul {x y : EReal} (hx : IsReal x) (hy : IsReal y) : IsReal (x * y) := by
  obtain ⟨a, rfl⟩ := hx
  obtain ⟨b, rfl⟩ := hy
  exact ⟨a * b, (EReal.coe_mul a b).symm⟩

/-- The logistic function has real values only. -/
theorem real_logistic (x : EReal) : IsReal (Ideal.logistic x) := by
  induction x with
  | bot => exact ⟨0, Ideal.logistic_bot⟩
  | coe r => exact ⟨_, Ideal.logistic_coe r⟩
  | top => exact ⟨1, Ideal.logistic_top⟩

/-- So has the hyperbolic tangent. -/
theorem real_tanh (x : EReal) : IsReal (Ideal.tanh x) := by
  induction x with
  | bot => exact ⟨-1, rfl⟩
  | coe r => exact ⟨_, rfl⟩
  | top => exact ⟨1, rfl⟩

/-- The grid number of a point at `a` seen from a point at `b`. -/
def num (a b : EReal) : BitVec 32 :=
  Ideal.fptosi 32 (min (((4#32 : BitVec 32).toInt : ℝ) : EReal) (max (((4294967292#32 : BitVec 32).toInt : ℝ) : EReal)
    (Ideal.div (a - b) (Ideal.ofBits .f32 0x3E924925#32))) + Ideal.ofBits .f32 0x40800000#32)

theorem four_bits : Ideal.ofBits .f32 0x40800000#32 = ((4 : ℝ) : EReal) := by
  simp [Ideal.ofBits, Ideal.ieee, -EReal.coe_mul]; norm_num

/-- Grid numbers are not negative. -/
theorem num_nonneg (a b : EReal) : 0 ≤ (num a b).toInt := by
  unfold num
  generalize Ideal.div (a - b) (Ideal.ofBits .f32 0x3E924925#32) = z
  rw [four_bits, show (4#32 : BitVec 32).toInt = 4 from by decide, show (4294967292#32 : BitVec 32).toInt = -4 from by decide]
  have key : ∃ r : ℝ, 0 ≤ r ∧ min (((4 : ℤ) : ℝ) : EReal) (max (((-4 : ℤ) : ℝ) : EReal) z) + ((4 : ℝ) : EReal) = (r : EReal) := by
    induction z with
    | bot =>
      refine ⟨0, le_refl _, ?_⟩
      rw [max_eq_left bot_le, min_eq_right (EReal.coe_le_coe_iff.mpr (by norm_num)), ← EReal.coe_add]
      norm_num
    | coe r =>
      refine ⟨min ((4 : ℤ) : ℝ) (max ((-4 : ℤ) : ℝ) r) + 4, ?_, ?_⟩
      · have : ((-4 : ℤ) : ℝ) ≤ min ((4 : ℤ) : ℝ) (max ((-4 : ℤ) : ℝ) r) := le_min (by norm_num) (le_max_left _ _)
        push_cast at this ⊢
        linarith
      · rw [← EReal.coe_strictMono.monotone.map_max, ← EReal.coe_strictMono.monotone.map_min, ← EReal.coe_add]
    | top =>
      refine ⟨8, by norm_num, ?_⟩
      rw [max_eq_right le_top, min_eq_left le_top, ← EReal.coe_add]
      norm_num
  obtain ⟨r, hr, e⟩ := key
  rw [e]
  unfold Ideal.fptosi
  rw [Ideal.toIntClamped_coe, if_pos hr]
  have h0 : 0 ≤ ⌊r⌋ := Int.floor_nonneg.mpr hr
  generalize ⌊r⌋ = n at h0 ⊢
  rw [BitVec.toInt_ofInt]
  simp only [Int.bmod]
  omega

/-- A sum over `m * n` numbers, cut into `m` runs of `n`. -/
theorem sum_cut {M : Type*} [AddCommMonoid M] (m n : ℕ) (f : Fin m → Fin n → M) :
    ∑ r : Fin (m * n), f r.divNat r.modNat = ∑ a : Fin m, ∑ b : Fin n, f a b :=
  (Fintype.sum_equiv finProdFinEquiv.symm (fun r => f r.divNat r.modNat) (fun p => f p.1 p.2) fun _ => rfl).trans
    (Fintype.sum_prod_type _)

/-- A finite sum of real numbers, among the extended ones. -/
theorem coe_sum {ι : Type*} [Fintype ι] (f : ι → ℝ) : ∑ i, (f i : EReal) = ((∑ i, f i : ℝ) : EReal) :=
  (map_sum (⟨⟨fun r : ℝ => (r : EReal), EReal.coe_zero⟩, EReal.coe_add⟩ : ℝ →+ EReal) f Finset.univ).symm

/-- Pooling the hidden states and then weighing them is weighing them and then pooling, if all is finite. -/
theorem pool_swap {J G K : Type*} [Fintype J] [Fintype G] [Fintype K] (A : J → G → EReal) (H : J → K → EReal) (W : G → K → EReal)
    (hA : ∀ j g, IsReal (A j g)) (hH : ∀ j k, IsReal (H j k)) (hW : ∀ g k, IsReal (W g k)) :
    ∑ j, ∑ g, A j g * ∑ k, H j k * W g k = ∑ g, ∑ k, (∑ j, A j g * H j k) * W g k := by
  choose a ha using hA
  choose h hh using hH
  choose w hw using hW
  simp only [ha, hh, hw, ← EReal.coe_mul, coe_sum]
  congr 1
  simp only [Finset.mul_sum, Finset.sum_mul]
  rw [Finset.sum_comm]
  refine Finset.sum_congr rfl fun g _ => ?_
  rw [Finset.sum_comm]
  exact Finset.sum_congr rfl fun k _ => Finset.sum_congr rfl fun j _ => by ring

end Cert.Equal

end
-- ==== Proof.Reads.lean ====
/-
  Both programs' words read at an index: the kernel's and the reference's step, entry by entry, as sums and products of
  extended reals.
-/
module

public import proofs.«01_k».proof.Proof.KernelFinal
public import proofs.«01_k».proof.Proof.RefRun
public import proofs.«01_k».proof.Proof.Scalars

@[expose] public section

noncomputable section

namespace Cert.Equal

open Idealize.ShloMosaic Idealize.ShloMosaic.TcCoe Idealize.ShloMosaic.Tactic

/-- Agent `i` of batch `b`. -/
def agent (b : Fin 8) (i : Fin 64) : Fin 512 := ⟨b.val * 64 + i.val, by omega⟩

theorem agent_div (b : Fin 8) (i : Fin 64) : (agent b i).val / 64 = b.val := by
  show (b.val * 64 + i.val) / 64 = b.val
  omega

theorem agent_mod (b : Fin 8) (i : Fin 64) : (agent b i).val % 64 = i.val := by
  show (b.val * 64 + i.val) % 64 = i.val
  omega

/-- Weight row of cell `g`, hidden component `k`. -/
def wrow (g : Fin 64) (k : Fin 128) : Fin 8192 := ⟨g.val * 128 + k.val, by omega⟩

/-- A word of one bit as a number. -/
theorem uitofp_bit (p : BitVec 1) : FloatOps.uitofp (F := Ideal) .f32 p = if p = 1#1 then 1 else 0 := by
  show (((p.toNat : ℕ) : ℝ) : EReal) = _
  rcases (by revert p; decide : p = 0#1 ∨ p = 1#1) with rfl | rfl <;> simp

/-- The same widened first. -/
theorem sitofp_bit (p : BitVec 1) : FloatOps.sitofp (F := Ideal) .f32 (BitVec.setWidth 32 p) = if p = 1#1 then 1 else 0 := by
  show ((((BitVec.setWidth 32 p).toInt : ℤ) : ℝ) : EReal) = _
  rcases (by revert p; decide : p = 0#1 ∨ p = 1#1) with rfl | rfl
  · rw [show (BitVec.setWidth 32 (0#1)).toInt = 0 from by decide]; simp
  · rw [show (BitVec.setWidth 32 (1#1)).toInt = 1 from by decide]; simp

section kernel

open Cert.KernelIdeal

theorem k_predict (w : FVec Ideal S128x2 .f32) (b : FVec Ideal S1x2 .f32) (h : FVec Ideal S512x128 .f32) (n : Fin 512) (d : Fin 2) :
    Step.predict w b h (ix2 n d) = ∑ k : Fin 128, h (ix2 n k) * w (ix2 k d) + b (ix2 0 d) := by
  pointwise [Step.predict]

theorem k_emb (w0 w1 b : FVec Ideal S1x64 .f32) (v : FVec Ideal S512x2 .f32) (n : Fin 512) (e : Fin 64) :
    Step.emb w0 w1 b v (ix2 n e) = v (ix2 n 0) * w0 (ix2 0 e) + v (ix2 n 1) * w1 (ix2 0 e) + b (ix2 0 e) := by
  pointwise [Step.emb]

theorem k_gx (x : FVec Ideal S512x2 .f32) (b : Fin 8) (j i : Fin 64) :
    Step.grid (Step.fst x) (ix3 b j i) = num (x (ix2 (agent b j) 0)) (x (ix2 (agent b i) 0)) := by
  pointwise [Step.grid, Step.fst]
  rfl

theorem k_gy (x : FVec Ideal S512x2 .f32) (b : Fin 8) (j i : Fin 64) :
    Step.grid (Step.snd x) (ix3 b j i) = num (x (ix2 (agent b j) 1)) (x (ix2 (agent b i) 1)) := by
  pointwise [Step.grid, Step.snd]
  rfl

theorem k_cells (x : FVec Ideal S512x2 .f32) (b : Fin 8) (j i : Fin 64) :
    Step.cells x (ix3 b j i) = Scalar.select
      (IntOp.andi (IntOp.andi (IntOp.cmpi .slt (Step.grid (Step.fst x) (ix3 b j i)) 8#32)
          (IntOp.cmpi .slt (Step.grid (Step.snd x) (ix3 b j i)) 8#32))
        (IntOp.cmpi .ne (BitVec.ofNat 32 j.val) (BitVec.ofNat 32 i.val)))
      (IntOp.addi (IntOp.muli (Step.grid (Step.snd x) (ix3 b j i)) 8#32) (Step.grid (Step.fst x) (ix3 b j i)))
      4294967295#32 := by
  pointwise [Step.cells]

theorem k_table (x : IVec S8x64x64 32) (b : Fin 8) (r : Fin (64 * 64)) (i : Fin 64) :
    Step.table (F := Ideal) b x (ix2 (n0 := 4096) r i)
      = if x (ix3 b r.divNat i) = BitVec.ofNat 32 r.modNat.val then 1 else 0 := by
  pointwise [Step.table]
  rw [sitofp_bit]
  exact if_congr IntOp.cmpi_eq rfl rfl

theorem k_batchU (w : FVec Ideal S128x4096 .f32) (h : FVec Ideal S512x128 .f32) (b : Fin 8) (r : Fin 4096) (i : Fin 64) :
    Step.batchU b w h (ix2 i r) = ∑ k : Fin 128, h (ix2 (agent b i) k) * w (ix2 k r) := by
  pointwise [Step.batchU]
  refine Finset.sum_congr rfl fun k _ => ?_
  congr 3
  exact Fin.ext (by show 64 * b.val + i.val = b.val * 64 + i.val; omega)

theorem k_pieces (u : FVec Ideal S64x4096 .f32) (j g e : Fin 64) :
    Step.pieces u (ix3 j g e) = u (ix2 j ⟨64 * g.val + e.val, by omega⟩) := by
  pointwise [Step.pieces]

theorem k_pool (cell : IVec S8x64x64 32) (w : FVec Ideal S128x4096 .f32) (h : FVec Ideal S512x128 .f32) (b : Fin 8) (i e : Fin 64) :
    Step.pool cell w h b (ix2 i e) = ∑ j : Fin 64, ∑ g : Fin 64, (if cell (ix3 b j i) = BitVec.ofNat 32 g.val then (1 : EReal) else 0)
      * ∑ k : Fin 128, h (ix2 (agent b j) k) * w (ix2 k ⟨64 * g.val + e.val, by omega⟩) := by
  pointwise [Step.pool]
  refine Eq.trans (Finset.sum_congr rfl fun x _ => ?_) (sum_cut 64 64 fun j g =>
    (if cell (ix3 b j i) = BitVec.ofNat 32 g.val then (1 : EReal) else 0)
      * ∑ k : Fin 128, h (ix2 (agent b j) k) * w (ix2 k ⟨64 * g.val + e.val, by omega⟩))
  exact congrArg₂ (· * ·) (k_table cell b x i) ((k_pieces _ _ _ _).trans (k_batchU w h b _ _))

theorem k_social (cell : IVec S8x64x64 32) (w : FVec Ideal S128x4096 .f32) (bp : FVec Ideal S1x64 .f32) (h : FVec Ideal S512x128 .f32)
    (b : Fin 8) (i e : Fin 64) :
    Step.social cell w bp h (ix2 (agent b i) e) = max (Step.pool cell w h b (ix2 i e) + bp (ix2 0 e)) 0 := by
  have hb := agent_div b i
  have hi := agent_mod b i
  have hc : concatenate S512x64 0 (List.ofFn fun b : Fin 8 => ⟨S64x64, Step.pool cell w h b⟩)
      Gen.concatenates_S64x64_S64x64_S64x64_S64x64_S64x64_S64x64_S64x64_S64x64_S512x64_d0 (ix2 (agent b i) e)
        = Step.pool cell w h b (ix2 i e) :=
    concatenate_ofFn_apply (t := S512x64) 0 (fun b : Fin 8 => Step.pool cell w h b) _ rfl 64 rfl _ b hb (ix2 i e) hi.symm
      (fun a ha => by
        match a with
        | ⟨0, _⟩ => exact absurd rfl ha
        | ⟨1, _⟩ => rfl)
  rw [← hc]
  pointwise [Step.social]

theorem k_preact (wx : FVec Ideal S64x512 .f32) (wh : FVec Ideal S128x512 .f32) (ws : FVec Ideal S64x512 .f32)
    (bz : FVec Ideal S1x512 .f32) (x : FVec Ideal S512x64 .f32) (h : FVec Ideal S512x128 .f32) (s : FVec Ideal S512x64 .f32)
    (n c : Fin 512) : Step.preact wx wh ws bz x h s (ix2 n c)
      = ∑ k : Fin 64, x (ix2 n k) * wx (ix2 k c) + ∑ k : Fin 128, h (ix2 n k) * wh (ix2 k c)
        + ∑ k : Fin 64, s (ix2 n k) * ws (ix2 k c) + bz (ix2 0 c) := by
  pointwise [Step.preact]

theorem k_gates (w : Fin 4 → FVec Ideal S256x128 .f32) (q : Fin 4) (r : Fin 256) (k : Fin 128) :
    Step.gates (w 0) (w 1) (w 2) (w 3) (ix2 r ⟨128 * q.val + k.val, by omega⟩) = w q (ix2 r k) := by
  have hk := k.isLt
  fin_cases q
  · pointwise [Step.gates]
  · pointwise [Step.gates]
  · pointwise [Step.gates]
    rw [dif_neg (show ¬ 256 + k.val < 128 by omega), dif_neg (show ¬ 256 + k.val - 128 < 128 by omega),
      dif_pos (show 256 + k.val - 128 - 128 < 128 by omega)]
    congr 2
    exact Fin.ext (by show 256 + k.val - 128 - 128 = k.val; omega)
  · pointwise [Step.gates]
    rw [dif_neg (show ¬ 384 + k.val < 128 by omega), dif_neg (show ¬ 384 + k.val - 128 < 128 by omega),
      dif_neg (show ¬ 384 + k.val - 128 - 128 < 128 by omega)]
    congr 2
    exact Fin.ext (by show 384 + k.val - 128 - 128 - 128 = k.val; omega)

theorem k_biases (w : Fin 4 → FVec Ideal S128 .f32) (q : Fin 4) (k : Fin 128) :
    Step.biases (w 0) (w 1) (w 2) (w 3) (ix1 ⟨128 * q.val + k.val, by omega⟩) = w q (ix1 k) := by
  have hk := k.isLt
  fin_cases q
  · pointwise [Step.biases]
  · pointwise [Step.biases]
  · pointwise [Step.biases]
    rw [dif_neg (show ¬ 256 + k.val < 128 by omega), dif_neg (show ¬ 256 + k.val - 128 < 128 by omega),
      dif_pos (show 256 + k.val - 128 - 128 < 128 by omega)]
    congr 2
    exact Fin.ext (by show 256 + k.val - 128 - 128 = k.val; omega)
  · pointwise [Step.biases]
    rw [dif_neg (show ¬ 384 + k.val < 128 by omega), dif_neg (show ¬ 384 + k.val - 128 < 128 by omega),
      dif_neg (show ¬ 384 + k.val - 128 - 128 < 128 by omega)]
    congr 2
    exact Fin.ext (by show 384 + k.val - 128 - 128 - 128 = k.val; omega)

theorem k_cell (z : FVec Ideal S512x512 .f32) (c : FVec Ideal S512x128 .f32) (n : Fin 512) (k : Fin 128) :
    Step.cell' z c (ix2 n k) = Ideal.logistic (z (ix2 n ⟨128 * 1 + k.val, by omega⟩)) * c (ix2 n k)
      + Ideal.logistic (z (ix2 n ⟨128 * 0 + k.val, by omega⟩)) * Ideal.tanh (z (ix2 n ⟨128 * 3 + k.val, by omega⟩)) := by
  pointwise [Step.cell']

theorem k_hid (z : FVec Ideal S512x512 .f32) (c : FVec Ideal S512x128 .f32) (n : Fin 512) (k : Fin 128) :
    Step.hid' z c (ix2 n k) = Ideal.logistic (z (ix2 n ⟨128 * 2 + k.val, by omega⟩)) * Ideal.tanh (Step.cell' z c (ix2 n k)) := by
  pointwise [Step.hid']

end kernel

section reference

open Cert.ReferenceIdeal

theorem r_predict (w : FVec Ideal S128x2 .f32) (b : FVec Ideal S2 .f32) (h : FVec Ideal S512x128 .f32) (n : Fin 512) (d : Fin 2) :
    Fold.predict w b h (ix2 n d) = ∑ k : Fin 128, h (ix2 n k) * w (ix2 k d) + b (ix1 d) := by
  pointwise [Fold.predict]

theorem r_emb (w : FVec Ideal S2x64 .f32) (b : FVec Ideal S64 .f32) (v : FVec Ideal S512x2 .f32) (n : Fin 512) (e : Fin 64) :
    Fold.emb w b v (ix2 n e) = ∑ k : Fin 2, v (ix2 n k) * w (ix2 k e) + b (ix1 e) := by
  pointwise [Fold.emb]

theorem r_gx (x : FVec Ideal S512x2 .f32) (b : Fin 8) (i j : Fin 64) :
    Fold.gx x (ix3 b i j) = num (x (ix2 (agent b j) 0)) (x (ix2 (agent b i) 0)) := by
  pointwise [Fold.gx, Fold.grids]
  rfl

theorem r_gy (x : FVec Ideal S512x2 .f32) (b : Fin 8) (i j : Fin 64) :
    Fold.gy x (ix3 b i j) = num (x (ix2 (agent b j) 1)) (x (ix2 (agent b i) 1)) := by
  pointwise [Fold.gy, Fold.grids]
  rfl

theorem r_valid (x : FVec Ideal S512x2 .f32) (b : Fin 8) (i j : Fin 64) :
    Fold.valid x (ix3 b i j) = IntOp.andi (IntOp.andi (IntOp.andi
        (IntOp.andi (IntOp.cmpi .sge (Fold.gx x (ix3 b i j)) 0#32) (IntOp.cmpi .slt (Fold.gx x (ix3 b i j)) 8#32))
        (IntOp.cmpi .sge (Fold.gy x (ix3 b i j)) 0#32)) (IntOp.cmpi .slt (Fold.gy x (ix3 b i j)) 8#32))
      (~~~ (IntOp.cmpi .eq (IntOp.addi (BitVec.ofNat 32 i.val) 0#32) (BitVec.ofNat 32 j.val))) := by
  pointwise [Fold.valid]

theorem r_hot (x : FVec Ideal S512x2 .f32) (b : Fin 8) (i j g : Fin 64) :
    Fold.hot x (ix4 b i j g)
      = (if IntOp.addi (IntOp.muli (Fold.gy x (ix3 b i j)) 8#32) (Fold.gx x (ix3 b i j)) = BitVec.ofNat 32 g.val then (1 : EReal) else 0)
        * (if Fold.valid x (ix3 b i j) = 1#1 then 1 else 0) := by
  pointwise [Fold.hot]
  rw [uitofp_bit, uitofp_bit]
  congr 1
  exact if_congr IntOp.cmpi_eq rfl rfl

theorem r_pooled (x : FVec Ideal S512x2 .f32) (h : FVec Ideal S512x128 .f32) (b : Fin 8) (i : Fin 64) (r : Fin (64 * 128)) :
    Fold.pooled x h (ix2 (n1 := 8192) (agent b i) r)
      = ∑ j : Fin 64, Fold.hot x (ix4 b i j r.divNat) * h (ix2 (agent b j) r.modNat) := by
  pointwise [Fold.pooled]
  refine Finset.sum_congr rfl fun j _ => congrArg₂ (· * ·) (congrArg _ ?_) (congrArg _ ?_)
  · congr 1
    · exact Fin.ext (agent_div b i)
    · exact Fin.ext (agent_mod b i)
  · congr 1
    exact Fin.ext (by show (agent b i).val / 64 * 64 + j.val = _; rw [agent_div]; rfl)

theorem r_social (w : FVec Ideal S8192x64 .f32) (bp : FVec Ideal S64 .f32) (x : FVec Ideal S512x2 .f32) (h : FVec Ideal S512x128 .f32)
    (b : Fin 8) (i e : Fin 64) : Fold.social w bp x h (ix2 (agent b i) e)
      = max (∑ g : Fin 64, ∑ k : Fin 128, (∑ j : Fin 64, Fold.hot x (ix4 b i j g) * h (ix2 (agent b j) k)) * w (ix2 (wrow g k) e)
          + bp (ix1 e)) 0 := by
  pointwise [Fold.social]
  refine congrArg (fun z => max (z + bp (ix1 e)) 0) (Eq.trans (Finset.sum_congr rfl fun r _ => ?_) (sum_cut 64 128 fun g k =>
    (∑ j : Fin 64, Fold.hot x (ix4 b i j g) * h (ix2 (agent b j) k)) * w (ix2 (wrow g k) e)))
  refine congrArg₂ (· * ·) (r_pooled x h b i r) (congrArg w ?_)
  congr 1
  exact Fin.ext (Nat.div_add_mod' r.val 128).symm

theorem r_lin (w : FVec Ideal S256x128 .f32) (b : FVec Ideal S128 .f32) (e : FVec Ideal S512x64 .f32) (h : FVec Ideal S512x128 .f32)
    (s : FVec Ideal S512x64 .f32) (n : Fin 512) (c : Fin 128) : Fold.lin w b (Fold.comb e h s) (ix2 n c)
      = ∑ k : Fin 64, e (ix2 n k) * w (ix2 ⟨k.val, by omega⟩ c) + ∑ k : Fin 128, h (ix2 n k) * w (ix2 ⟨64 + k.val, by omega⟩ c)
        + ∑ k : Fin 64, s (ix2 n k) * w (ix2 ⟨192 + k.val, by omega⟩ c) + b (ix1 c) := by
  pointwise [Fold.lin, Fold.comb]
  refine congrArg (· + b (ix1 c)) ?_
  refine (Fin.sum_univ_add (a := 64 + 128) (b := 64) _).trans (congrArg₂ (· + ·)
    ((Fin.sum_univ_add (a := 64) (b := 128) _).trans (congrArg₂ (· + ·) ?_ ?_)) ?_)
  · refine Finset.sum_congr rfl fun k _ => congrArg₂ (· * ·) ?_ rfl
    exact dif_pos k.isLt
  · refine Finset.sum_congr rfl fun k _ => congrArg₂ (· * ·) ?_ rfl
    have h1 : ¬ 64 + k.val < 64 := by omega
    have h2 : 64 + k.val - 64 < 128 := by omega
    refine (dif_neg h1).trans ((dif_pos h2).trans (congrArg h ?_))
    congr 1
    exact Fin.ext (by show 64 + k.val - 64 = k.val; omega)
  · refine Finset.sum_congr rfl fun k _ => congrArg₂ (· * ·) ?_ rfl
    have h1 : ¬ 192 + k.val < 64 := by omega
    have h2 : ¬ 192 + k.val - 64 < 128 := by omega
    refine (dif_neg h1).trans ((dif_neg h2).trans (congrArg s ?_))
    congr 1
    exact Fin.ext (by show 192 + k.val - 64 - 128 = k.val; omega)

theorem r_sigm (x : FVec Ideal S512x128 .f32) (n : Fin 512) (c : Fin 128) :
    Fold.sigm x (ix2 n c) = Ideal.logistic (x (ix2 n c)) := by
  pointwise [Fold.sigm]
  rfl

end reference

end Cert.Equal

end
-- ==== Proof.Equal.lean ====
/-
  The kernel's step is the reference's: the weights as the host lays them out read back entry by entry, the same cells
  found by either, the same pooled neighbours while the states and the pooling weights are finite, so the same gates.
-/
module

public import proofs.«01_k».proof.Proof.Reads

@[expose] public section

noncomputable section

namespace Cert.Equal

open Idealize.ShloMosaic Idealize.ShloMosaic.TcCoe Idealize.ShloMosaic.Tactic
open Cert.ReferenceIdeal (S512x2 S512x64 S512x128 S8x512x2 S8x64x64)

/-- The reference's weights as the kernel's host code lays them out. -/
def laid (P : Cert.ReferenceIdeal.Fold.Wts Ideal) : Cert.KernelIdeal.Step.Par Ideal :=
  Cert.KernelIdeal.Step.lay P.win P.bin P.wp P.bp P.wi P.bi P.wf P.bf P.wo P.bo P.wg P.bg P.wout P.bout

/-- The gates' weights by number. -/
def gateW (P : Cert.ReferenceIdeal.Fold.Wts Ideal) : Fin 4 → FVec Ideal Cert.ReferenceIdeal.S256x128 .f32 := ![P.wi, P.wf, P.wo, P.wg]

/-- The gates' biases by number. -/
def gateB (P : Cert.ReferenceIdeal.Fold.Wts Ideal) : Fin 4 → FVec Ideal Cert.ReferenceIdeal.S128 .f32 := ![P.bi, P.bf, P.bo, P.bg]

/-- A number of a row of agents is an agent of a batch. -/
theorem agent_of (n : Fin 512) : ∃ (b : Fin 8) (i : Fin 64), n = agent b i :=
  ⟨⟨n.val / 64, by omega⟩, ⟨n.val % 64, by omega⟩, Fin.ext (Nat.div_add_mod' n.val 64).symm⟩

/-- Two rectangles are equal if their entries are. -/
theorem ext2 {α : Type*} {m n : ℕ} (f g : (⟨2, ![m, n]⟩ : Shape).Idx → α) (h : ∀ a b, f (ix2 a b) = g (ix2 a b)) : f = g :=
  funext fun j => by
    rw [eq_ix2 j]
    exact h _ _

section laid

variable (P : Cert.ReferenceIdeal.Fold.Wts Ideal)

theorem laid_b (e : Fin 64) : (laid P).b (ix2 0 e) = P.bin (ix1 e) := by
  show shapeCast Cert.KernelIdeal.S1x64 P.bin _ (ix2 0 e) = _
  pointwise []

theorem laid_bp (e : Fin 64) : (laid P).bp (ix2 0 e) = P.bp (ix1 e) := by
  show shapeCast Cert.KernelIdeal.S1x64 P.bp _ (ix2 0 e) = _
  pointwise []

theorem laid_bo (d : Fin 2) : (laid P).bo (ix2 0 d) = P.bout (ix1 d) := by
  show shapeCast Cert.KernelIdeal.S1x2 P.bout _ (ix2 0 d) = _
  pointwise []

theorem laid_pool (k : Fin 128) (g e : Fin 64) :
    (laid P).wpr (ix2 k ⟨64 * g.val + e.val, by omega⟩) = P.wp (ix2 (wrow g k) e) := by
  show shapeCast Cert.KernelIdeal.S128x4096 (transpose Cert.KernelIdeal.S128x64x64 [1, 0, 2]
    (shapeCast Cert.KernelIdeal.S64x128x64 P.wp _) _) _ (ix2 k _) = _
  pointwise []
  rfl

theorem laid_x (q : Fin 4) (r : Fin 64) (k : Fin 128) :
    (laid P).wx (ix2 r ⟨128 * q.val + k.val, by omega⟩) = gateW P q (ix2 ⟨r.val, by omega⟩ k) := by
  refine Eq.trans ?_ (k_gates (gateW P) q ⟨r.val, by omega⟩ k)
  show extractStridedSlice Cert.KernelIdeal.S64x512 ![0, 0] (Cert.KernelIdeal.Step.gates P.wi P.wf P.wo P.wg)
    Cert.KernelIdeal.Gen.slices_S256x512_S64x512_0_0 (ix2 r _) = _
  pointwise []
  rfl

theorem laid_h (q : Fin 4) (r k : Fin 128) :
    (laid P).wh (ix2 r ⟨128 * q.val + k.val, by omega⟩) = gateW P q (ix2 ⟨64 + r.val, by omega⟩ k) := by
  refine Eq.trans ?_ (k_gates (gateW P) q ⟨64 + r.val, by omega⟩ k)
  show extractStridedSlice Cert.KernelIdeal.S128x512 ![64, 0] (Cert.KernelIdeal.Step.gates P.wi P.wf P.wo P.wg)
    Cert.KernelIdeal.Gen.slices_S256x512_S128x512_64_0 (ix2 r _) = _
  pointwise []
  rfl

theorem laid_s (q : Fin 4) (r : Fin 64) (k : Fin 128) :
    (laid P).ws (ix2 r ⟨128 * q.val + k.val, by omega⟩) = gateW P q (ix2 ⟨192 + r.val, by omega⟩ k) := by
  refine Eq.trans ?_ (k_gates (gateW P) q ⟨192 + r.val, by omega⟩ k)
  show extractStridedSlice Cert.KernelIdeal.S64x512 ![192, 0] (Cert.KernelIdeal.Step.gates P.wi P.wf P.wo P.wg)
    Cert.KernelIdeal.Gen.slices_S256x512_S64x512_192_0 (ix2 r _) = _
  pointwise []
  rfl

theorem laid_bz (q : Fin 4) (k : Fin 128) : (laid P).bz (ix2 0 ⟨128 * q.val + k.val, by omega⟩) = gateB P q (ix1 k) := by
  refine Eq.trans ?_ (k_biases (gateB P) q k)
  show shapeCast Cert.KernelIdeal.S1x512 (Cert.KernelIdeal.Step.biases P.bi P.bf P.bo P.bg) _ (ix2 0 _) = _
  pointwise []
  rfl

end laid

/-- Not, of one bit. -/
theorem not_bit (p : BitVec 1) : ~~~p = 1#1 ↔ ¬ p = 1#1 := by revert p; decide

/-- No cell has the number minus one. -/
theorem none_ne (g : Fin 64) : ¬ (4294967295#32 : BitVec 32) = BitVec.ofNat 32 g.val := by revert g; decide

/-- The reference's ones are where the kernel's cells are. -/
theorem hot_eq (x : FVec Ideal S512x2 .f32) (b : Fin 8) (i j g : Fin 64) : Cert.ReferenceIdeal.Fold.hot x (ix4 b i j g)
    = if Cert.KernelIdeal.Step.cells x (ix3 b j i) = BitVec.ofNat 32 g.val then 1 else 0 := by
  rw [r_hot, r_valid, r_gx, r_gy, k_cells, k_gx, k_gy]
  have hX := num_nonneg (x (ix2 (agent b j) 0)) (x (ix2 (agent b i) 0))
  have hY := num_nonneg (x (ix2 (agent b j) 1)) (x (ix2 (agent b i) 1))
  generalize num (x (ix2 (agent b j) 0)) (x (ix2 (agent b i) 0)) = X at hX ⊢
  generalize num (x (ix2 (agent b j) 1)) (x (ix2 (agent b i) 1)) = Y at hY ⊢
  have h0 : (0#32 : BitVec 32).toInt = 0 := by decide
  have e0 : IntOp.addi (BitVec.ofNat 32 i.val) 0#32 = BitVec.ofNat 32 i.val := BitVec.add_zero _
  rw [e0]
  have hr : IntOp.andi (IntOp.andi (IntOp.andi (IntOp.andi (IntOp.cmpi .sge X 0#32) (IntOp.cmpi .slt X 8#32))
        (IntOp.cmpi .sge Y 0#32)) (IntOp.cmpi .slt Y 8#32)) (~~~ (IntOp.cmpi .eq (BitVec.ofNat 32 i.val) (BitVec.ofNat 32 j.val)))
        = 1#1
      ↔ IntOp.andi (IntOp.andi (IntOp.cmpi .slt X 8#32) (IntOp.cmpi .slt Y 8#32))
          (IntOp.cmpi .ne (BitVec.ofNat 32 j.val) (BitVec.ofNat 32 i.val)) = 1#1 := by
    simp only [IntOp.andi_eq_one, IntOp.cmpi_sge, IntOp.cmpi_slt, IntOp.cmpi_ne, not_bit, IntOp.cmpi_eq, h0]
    exact ⟨fun ⟨⟨⟨⟨_, a⟩, _⟩, b⟩, n⟩ => ⟨⟨a, b⟩, fun e => n e.symm⟩,
      fun ⟨⟨a, b⟩, n⟩ => ⟨⟨⟨⟨hX, a⟩, hY⟩, b⟩, fun e => n e.symm⟩⟩
  by_cases h : IntOp.andi (IntOp.andi (IntOp.cmpi .slt X 8#32) (IntOp.cmpi .slt Y 8#32))
      (IntOp.cmpi .ne (BitVec.ofNat 32 j.val) (BitVec.ofNat 32 i.val)) = 1#1
  · rw [if_pos (hr.mpr h), mul_one, show Scalar.select _ _ (4294967295#32 : BitVec 32) = _ from if_pos h]
  · rw [if_neg (mt hr.mp h), mul_zero, show Scalar.select _ _ (4294967295#32 : BitVec 32) = _ from if_neg h, if_neg (none_ne g)]

/-- Zeros and ones are real numbers. -/
theorem real_ite (p : Prop) [Decidable p] : IsReal (if p then (1 : EReal) else 0) := by
  split
  · exact ⟨1, rfl⟩
  · exact real_zero

/-- All entries real. -/
def AllReal {s : Shape} (h : s.Idx → EReal) : Prop := ∀ j, IsReal (h j)

section step

variable (P : Cert.ReferenceIdeal.Fold.Wts Ideal) (x vel : FVec Ideal S512x2 .f32) (h c : FVec Ideal S512x128 .f32)

theorem predict_eq : Cert.KernelIdeal.Step.predict (laid P).wo (laid P).bo h = Cert.ReferenceIdeal.Fold.predict P.wout P.bout h :=
  ext2 _ _ fun n d => by
    rw [k_predict, r_predict, laid_bo]
    rfl

theorem emb_eq : Cert.KernelIdeal.Step.emb (laid P).w0 (laid P).w1 (laid P).b vel = Cert.ReferenceIdeal.Fold.emb P.win P.bin vel :=
  ext2 _ _ fun n e => by
    rw [k_emb, r_emb, laid_b, Fin.sum_univ_two]
    rfl

/-- Pooling after the weights is pooling before them. -/
theorem social_eq (hw : AllReal P.wp) (hh : AllReal h) :
    Cert.KernelIdeal.Step.social (Cert.KernelIdeal.Step.cells x) (laid P).wpr (laid P).bp h
      = Cert.ReferenceIdeal.Fold.social P.wp P.bp x h :=
  ext2 _ _ fun n e => by
    obtain ⟨b, i, rfl⟩ := agent_of n
    rw [k_social, k_pool, r_social, laid_bp]
    simp only [laid_pool, hot_eq]
    rw [pool_swap (fun j g : Fin 64 => if Cert.KernelIdeal.Step.cells x (ix3 b j i) = BitVec.ofNat 32 g.val then (1 : EReal) else 0)
      (fun (j : Fin 64) (k : Fin 128) => h (ix2 (agent b j) k)) (fun (g : Fin 64) (k : Fin 128) => P.wp (ix2 (wrow g k) e))
      (fun _ _ => real_ite _) (fun _ _ => hh _) (fun _ _ => hw _)]

/-- A gate's preactivation is the reference's. -/
theorem preact_eq (e s : FVec Ideal S512x64 .f32) (q : Fin 4) (n : Fin 512) (k : Fin 128) :
    Cert.KernelIdeal.Step.preact (laid P).wx (laid P).wh (laid P).ws (laid P).bz e h s (ix2 n ⟨128 * q.val + k.val, by omega⟩)
      = Cert.ReferenceIdeal.Fold.lin (gateW P q) (gateB P q) (Cert.ReferenceIdeal.Fold.comb e h s) (ix2 n k) := by
  rw [k_preact, r_lin]
  simp only [laid_x, laid_h, laid_s, laid_bz]

/-- The new cell state is the reference's. -/
theorem cell_eq (e s : FVec Ideal S512x64 .f32) :
    Cert.KernelIdeal.Step.cell' (Cert.KernelIdeal.Step.preact (laid P).wx (laid P).wh (laid P).ws (laid P).bz e h s) c
      = Cert.ReferenceIdeal.Fold.cell' P (Cert.ReferenceIdeal.Fold.comb e h s) c :=
  ext2 _ _ fun n k => by
    have hi := preact_eq P h e s 0 n k
    have hf := preact_eq P h e s 1 n k
    have hg := preact_eq P h e s 3 n k
    refine (k_cell _ c n k).trans ?_
    refine (congrArg₂ (· + ·) (congrArg (fun z => Ideal.logistic z * c (ix2 n k)) hf)
      (congrArg₂ (fun z z' => Ideal.logistic z * Ideal.tanh z') hi hg)).trans ?_
    exact congrArg₂ (· + ·) (congrArg (· * c (ix2 n k)) (r_sigm _ n k).symm) (congrArg (· * _) (r_sigm _ n k).symm)

/-- The new hidden state is the reference's. -/
theorem hid_eq (e s : FVec Ideal S512x64 .f32) :
    Cert.KernelIdeal.Step.hid' (Cert.KernelIdeal.Step.preact (laid P).wx (laid P).wh (laid P).ws (laid P).bz e h s) c
      = Cert.ReferenceIdeal.Fold.hid' P (Cert.ReferenceIdeal.Fold.comb e h s) c :=
  ext2 _ _ fun n k => by
    have ho := preact_eq P h e s 2 n k
    refine (k_hid _ c n k).trans ?_
    rw [cell_eq P h c e s]
    refine (congrArg (fun z => Ideal.logistic z * _) ho).trans ?_
    exact congrArg (· * _) (r_sigm _ n k).symm

/-- The new hidden state is finite whatever the old one was. -/
theorem hid_real (X : FVec Ideal Cert.ReferenceIdeal.S512x256 .f32) : AllReal (Cert.ReferenceIdeal.Fold.hid' P X c) := fun j => by
  obtain ⟨n, k, rfl⟩ : ∃ (n : Fin 512) (k : Fin 128), j = ix2 n k := ⟨j 0, j 1, eq_ix2 j⟩
  show IsReal (HMul.hMul (α := EReal) (Cert.ReferenceIdeal.Fold.sigm (Cert.ReferenceIdeal.Fold.lin P.wo P.bo X) (ix2 n k))
    (Ideal.tanh (Cert.ReferenceIdeal.Fold.cell' P X c (ix2 n k))))
  rw [r_sigm]
  exact real_mul (real_logistic _) (real_tanh _)

/-- One step of either program, from the same finite state. -/
theorem adv_eq (hw : AllReal P.wp) (hh : AllReal h) :
    Cert.KernelIdeal.Step.adv (laid P) vel x (h, c) = Cert.ReferenceIdeal.Fold.adv P vel x (h, c) := by
  unfold Cert.KernelIdeal.Step.adv Cert.KernelIdeal.Step.lstm Cert.ReferenceIdeal.Fold.adv Cert.ReferenceIdeal.Fold.input
  dsimp only
  rw [emb_eq, social_eq P x h hw hh]
  exact Prod.ext (hid_eq P h c _ _) (cell_eq P h c _ _)

end step

section run

variable (P : Cert.ReferenceIdeal.Fold.Wts Ideal) (xv xp : FVec Ideal S8x512x2 .f32)

/-- Along the reference's run the hidden states are finite. -/
theorem walk_real (k : ℕ) : AllReal (Cert.ReferenceIdeal.Fold.walk P xv xp k).1 := by
  cases k with
  | zero => exact fun j => ⟨0, Ideal.ofBits_zero .f32⟩
  | succ k => exact hid_real P _ _

/-- A given step of the reference. -/
theorem walk_given (k : ℕ) (hk : k < 8) : Cert.ReferenceIdeal.Fold.walk P xv xp (k + 1)
    = (let s := Cert.ReferenceIdeal.Fold.walk P xv xp k
       let n := Cert.ReferenceIdeal.Fold.adv P (Cert.ReferenceIdeal.Fold.row xv k) (Cert.ReferenceIdeal.Fold.row xp k) (s.1, s.2.1)
       (n.1, n.2, Cert.ReferenceIdeal.Fold.row xp k)) := by
  rw [Cert.ReferenceIdeal.Fold.walk]
  dsimp only
  rw [if_pos hk, if_pos hk]

/-- A predicted step of the reference. -/
theorem walk_predicted (k : ℕ) (hk : ¬ k < 8) : Cert.ReferenceIdeal.Fold.walk P xv xp (k + 1)
    = (let s := Cert.ReferenceIdeal.Fold.walk P xv xp k
       let v := Cert.ReferenceIdeal.Fold.predict P.wout P.bout s.1
       let n := Cert.ReferenceIdeal.Fold.adv P v (addf s.2.2 v) (s.1, s.2.1)
       (n.1, n.2, addf s.2.2 v)) := by
  rw [Cert.ReferenceIdeal.Fold.walk]
  dsimp only
  rw [if_neg hk, if_neg hk]

/-- The eight given steps. -/
theorem given_walk (hw : AllReal P.wp) (k : ℕ) (hk : k ≤ 8) : Cert.KernelIdeal.Step.given (laid P) xv xp k
    = ((Cert.ReferenceIdeal.Fold.walk P xv xp k).1, (Cert.ReferenceIdeal.Fold.walk P xv xp k).2.1) := by
  induction k with
  | zero =>
    unfold Cert.KernelIdeal.Step.given Cert.ReferenceIdeal.Fold.walk
    exact Prod.ext (funext fun _ => rfl) (funext fun _ => rfl)
  | succ k ih =>
    have h8 : k < 8 := hk
    show Cert.KernelIdeal.Step.adv (laid P) (Cert.KernelIdeal.Step.row xv k) (Cert.KernelIdeal.Step.row xp k)
      (Cert.KernelIdeal.Step.given (laid P) xv xp k) = _
    rw [ih (by omega), adv_eq P _ _ _ _ hw (walk_real P xv xp k)]
    rw [walk_given P xv xp k h8]
    rfl

/-- The steps after those. -/
theorem guess_walk (hw : AllReal P.wp) (k : ℕ) :
    Cert.KernelIdeal.Step.guess (laid P) (Cert.KernelIdeal.Step.start (laid P) xv xp) k
      = Cert.ReferenceIdeal.Fold.walk P xv xp (8 + k) := by
  induction k with
  | zero =>
    show Cert.KernelIdeal.Step.start (laid P) xv xp = Cert.ReferenceIdeal.Fold.walk P xv xp (7 + 1)
    unfold Cert.KernelIdeal.Step.start
    rw [given_walk P xv xp hw 8 (le_refl 8), walk_given P xv xp 7 (by decide)]
    rfl
  | succ k ih =>
    rw [← Nat.add_assoc, walk_predicted P xv xp (8 + k) (by omega), Cert.KernelIdeal.Step.guess]
    dsimp only
    rw [ih, predict_eq, adv_eq P _ _ _ _ hw (walk_real P xv xp (8 + k))]

/-- The kernel's predictions are the reference's. -/
theorem rows_eq (hw : AllReal P.wp) :
    Cert.KernelIdeal.Step.rows (laid P) (Cert.KernelIdeal.Step.start (laid P) xv xp) = Cert.ReferenceIdeal.Fold.preds P xv xp :=
  funext fun y => by
    unfold Cert.KernelIdeal.Step.rows Cert.ReferenceIdeal.Fold.preds
    rw [guess_walk P xv xp hw, predict_eq]

end run

end Cert.Equal

end
-- ==== Proof.Finite.lean ====
/-
  What the precondition says: every entry of the pooling weights is a real number.
-/
module

public import proofs.«01_k».proof.Pre_finite_pool
public import proofs.«01_k».proof.Proof.Equal
public import Idealize.ShloMosaic.Lib.ReduceAll

@[expose] public section

noncomputable section

namespace Cert.Equal

open Idealize.ShloMosaic

/-- The side conditions of the precondition's operations. -/
theorem pre_facts : Cert.Pre_finite_pool.Facts where
  bcast_S_S8192x64 := by decide
  reducesTo_S8192x64_S_d0_1 := by decide
  h_S_ := by decide

/-- The word the precondition compares with is plus infinity. -/
theorem inf_bits : Ideal.ofBits .f32 0x7F800000#32 = ⊤ := by
  simp [Ideal.ofBits, Ideal.ieee]

/-- A number whose absolute value is below plus infinity is real. -/
theorem real_of_abs_lt (x : EReal) (h : max x (-x) < ⊤) : IsReal x := by
  induction x with
  | bot => exact absurd h (by simp)
  | coe r => exact ⟨r, rfl⟩
  | top => exact absurd h (by simp)

instance : Subsingleton Cert.Pre_finite_pool.S_.Idx := ⟨fun a b => funext fun i => i.elim0⟩

/-- The test the precondition prints, when it comes out true. -/
theorem pool_real [Cert.Pre_finite_pool.Facts] (w : FVec Ideal Cert.Pre_finite_pool.S8192x64 .f32)
    (h : Host.reduce IntOp.andi (cmpf .olt (Host.absf w) (broadcastInDim Cert.Pre_finite_pool.S8192x64 ![]
        Cert.Pre_finite_pool.Facts.bcast_S_S8192x64 (constant (F := Ideal) Cert.Pre_finite_pool.S_ .f32 0x7F800000#32)))
      (constantI Cert.Pre_finite_pool.S_ 1 1#1) Cert.Pre_finite_pool.Facts.reducesTo_S8192x64_S_d0_1
      Cert.Pre_finite_pool.Facts.h_S_ = fun _ => 1#1) : AllReal w := fun i => by
  have e := Host.reduce_andi_all _ _ _ _ (Shape.Idx.first (by decide)) (congrFun h _) i
  have e' : Ideal.cmp .olt (max (w i) (-(w i))) (Ideal.ofBits .f32 0x7F800000#32) = 1#1 := e
  rw [inf_bits] at e'
  refine real_of_abs_lt _ (by_contra fun n => ?_)
  rw [Ideal.cmp_olt, decide_eq_false n] at e'
  exact absurd e' (by decide)

end Cert.Equal

end
-- ==== Proof.lean ====
/-
  The claims of `Cert.Claim`: the frames of the kernel (at words and at the extended reals) and of the reference, that
  idealizing the kernel changed nothing, and that over the extended reals the kernel's predictions are the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run ends with its arguments as they were and every semaphore at zero. -/
theorem reference_frame : quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- From equal arguments, with finite pooling weights, both programs leave the same predictions. -/
theorem results_equal : algebraic_KernelIdeal_ReferenceIdeal_pre_finite_pool (hKernelIdeal := Cert.KernelIdeal.Gen.facts)
    (hReferenceIdeal := Cert.ReferenceIdeal.Gen.facts) (hPre_finite_pool := Cert.Equal.pre_facts) := by
  intro m g m' g' hpre hargs
  letI := Cert.Equal.pre_facts
  refine ⟨fun c => Cert.ReferenceIdeal.Fold.preds (Cert.ReferenceIdeal.Fold.wtsOf m' c) (Cert.ReferenceIdeal.Fold.vels m' c)
      (Cert.ReferenceIdeal.Fold.poss m' c),
    (θ_run (Cert.KernelIdeal.defs (F := Ideal)) _ _).mono (fun r h c => ⟨(h c).1.trans ?_, (h c).2⟩)
      (Cert.KernelIdeal.Value.run_blocks (F := Ideal) m g),
    (θ_run (Cert.ReferenceIdeal.defs (F := Ideal)) _ _).mono
      (fun r h c => ⟨(h c).1.trans (Cert.ReferenceIdeal.Fold.out_eq m' c), (h c).2⟩)
      (Cert.ReferenceIdeal.Value.run (F := Ideal) m' g')⟩
  obtain ⟨a0, -, a2, a3, a4, a5, a6, a7, a8, a9, a10, a11, a12, a13, a14, a15, a16⟩ := hargs c
  have hw : Cert.Equal.AllReal (Cert.ReferenceIdeal.Fold.wtsOf m' c).wp :=
    (congrArg Cert.Equal.AllReal a5).mpr (Cert.Equal.pool_real _ (hpre c))
  have hlaid : Cert.KernelIdeal.Step.parOf m c = Cert.Equal.laid (Cert.ReferenceIdeal.Fold.wtsOf m' c) := by
    rw [Cert.KernelIdeal.Step.parOf_eq, ← a3, ← a4, ← a5, ← a6, ← a7, ← a8, ← a9, ← a10, ← a11, ← a12, ← a13, ← a14, ← a15, ← a16]
    rfl
  rw [Cert.KernelIdeal.Step.final, Cert.KernelIdeal.Step.result_eq, hlaid, ← a0, ← a2]
  exact Cert.Equal.rows_eq _ _ _ hw

/-- The claims together. -/
theorem claim : Cert.Claim := ⟨Cert.Kernel.Gen.facts, Cert.KernelIdeal.Gen.facts, Cert.ReferenceIdeal.Gen.facts,
  Cert.Equal.pre_facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  results_equal⟩

end Cert.Proof

end
